-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x256x28x28 : Shape := ⟨4, ![128, 256, 28, 28]⟩
abbrev S128x512x14x14 : Shape := ⟨4, ![128, 512, 14, 14]⟩
abbrev S28x28x128x256 : Shape := ⟨4, ![28, 28, 128, 256]⟩
abbrev S56x14x128x256 : Shape := ⟨4, ![56, 14, 128, 256]⟩
abbrev S14x14x128x512 : Shape := ⟨4, ![14, 14, 128, 512]⟩
abbrev S28x7x128x512 : Shape := ⟨4, ![28, 7, 128, 512]⟩
abbrev S56x14x256 : Shape := ⟨3, ![56, 14, 256]⟩
abbrev S6x1x7x128x512 : Shape := ⟨5, ![6, 1, 7, 128, 512]⟩
abbrev S6x1x14x128x256 : Shape := ⟨5, ![6, 1, 14, 128, 256]⟩
abbrev S2x1x14x256 : Shape := ⟨4, ![2, 1, 14, 256]⟩
abbrev S128x512 : Shape := ⟨2, ![128, 512]⟩
abbrev S128x256 : Shape := ⟨2, ![128, 256]⟩
abbrev S6 : Shape := ⟨1, ![6]⟩
abbrev S2 : Shape := ⟨1, ![2]⟩
abbrev S1 : Shape := ⟨1, ![1]⟩
abbrev S_ : Shape := ⟨0, ![]⟩
abbrev S1x1x7x128x512 : Shape := ⟨5, ![1, 1, 7, 128, 512]⟩
abbrev S1x7x128x512 : Shape := ⟨4, ![1, 7, 128, 512]⟩
abbrev S1x1x14x128x256 : Shape := ⟨5, ![1, 1, 14, 128, 256]⟩
abbrev S1x14x128x256 : Shape := ⟨4, ![1, 14, 128, 256]⟩
abbrev S128 : Shape := ⟨1, ![128]⟩
abbrev S128x1 : Shape := ⟨2, ![128, 1]⟩
abbrev S1x14x256 : Shape := ⟨3, ![1, 14, 256]⟩
abbrev S1x1x14x256 : Shape := ⟨4, ![1, 1, 14, 256]⟩
abbrev S1x1x128x256 : Shape := ⟨4, ![1, 1, 128, 256]⟩
abbrev S28x28x256 : Shape := ⟨3, ![28, 28, 256]⟩
abbrev S256x28x28 : Shape := ⟨3, ![256, 28, 28]⟩

abbrev nBuf : Space → Nat
  | .hbm => 9
  | .vmem => 5
  | .smem => 0
  | _ => 0

abbrev bufTy : (tb : Table) → Fin (tcTables nBuf tb) → BufTy
  | .hbm, ⟨0, _⟩ => ⟨S128x256x28x28, .f32⟩
  | .hbm, ⟨1, _⟩ => ⟨S128x512x14x14, .f32⟩
  | .hbm, ⟨2, _⟩ => ⟨S28x28x128x256, .f32⟩
  | .hbm, ⟨3, _⟩ => ⟨S56x14x128x256, .f32⟩
  | .hbm, ⟨4, _⟩ => ⟨S14x14x128x512, .f32⟩
  | .hbm, ⟨5, _⟩ => ⟨S28x7x128x512, .f32⟩
  | .hbm, ⟨6, _⟩ => ⟨S56x14x256, .f32⟩
  | .hbm, ⟨7, _⟩ => ⟨S28x28x256, .f32⟩
  | .hbm, ⟨8, _⟩ => ⟨S256x28x28, .f32⟩
  | .local _ .vmem, ⟨0, _⟩ => ⟨S6x1x7x128x512, .f32⟩
  | .local _ .vmem, ⟨1, _⟩ => ⟨S6x1x14x128x256, .f32⟩
  | .local _ .vmem, ⟨2, _⟩ => ⟨S2x1x14x256, .f32⟩
  | .local _ .vmem, ⟨3, _⟩ => ⟨S128x512, .f32⟩
  | .local _ .vmem, ⟨4, _⟩ => ⟨S128x256, .f32⟩
  | _, _ => ⟨S128x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩

abbrev nD : Nat := 1
abbrev τ : Topo := Topo.v7x

variable {F : FTy → Type} [FloatOps F]

abbrev grid0 : Pipeline.Grid := .none

@[reducible] def k0_t1_loop : Scf.Loop 32 :=
  let c0_i32_55 : BitVec 32 := 0#32
  let c28_i32 : BitVec 32 := 28#32
  let v34 : BitVec 32 := Scalar.addi c0_i32_55 c28_i32
  let c1_i32_56 : BitVec 32 := 1#32
  ⟨c0_i32_55, v34, c1_i32_56⟩
def k0_off1 (k0_t1 : Fin k0_t1_loop.trips) : Fin 1 → Nat :=
  let c0_i32_55 : BitVec 32 := 0#32
  let c1_i32_56 : BitVec 32 := 1#32
  let arg11 : BitVec 32 := Scf.iv c0_i32_55 c1_i32_56 k0_t1
  let c6_i32 : BitVec 32 := 6#32
  let v54 : BitVec 32 := Scalar.remsi arg11 c6_i32
  ![v54.toNat]
def k0_off2 (k0_t1 : Fin k0_t1_loop.trips) : Fin 5 → Nat :=
  let c0_i32_55 : BitVec 32 := 0#32
  let c1_i32_56 : BitVec 32 := 1#32
  let arg11 : BitVec 32 := Scf.iv c0_i32_55 c1_i32_56 k0_t1
  let c6_i32 : BitVec 32 := 6#32
  let v54 : BitVec 32 := Scalar.remsi arg11 c6_i32
  let c0_i32_80 : BitVec 32 := 0#32
  let c0_i32_81 : BitVec 32 := 0#32
  let c0_i32_82 : BitVec 32 := 0#32
  let c0_i32_83 : BitVec 32 := 0#32
  ![v54.toNat, 0, 0, 0, 0]
def k0_off3 (k0_t1 : Fin k0_t1_loop.trips) : Fin 5 → Nat :=
  let c0_i32_55 : BitVec 32 := 0#32
  let c1_i32_56 : BitVec 32 := 1#32
  let arg11 : BitVec 32 := Scf.iv c0_i32_55 c1_i32_56 k0_t1
  let c6_i32 : BitVec 32 := 6#32
  let v54 : BitVec 32 := Scalar.remsi arg11 c6_i32
  let v61 : Index := Scalar.indexCast v54
  let c0_88 : Index := 0#32
  let c0_89 : Index := 0#32
  let c0_90 : Index := 0#32
  let c0_91 : Index := 0#32
  ![v61.toNat, 0, 0, 0, 0]
def k0_cond1 (k0_t1 : Fin k0_t1_loop.trips) : BitVec 1 :=
  let c0_i32_55 : BitVec 32 := 0#32
  let c1_i32_56 : BitVec 32 := 1#32
  let arg11 : BitVec 32 := Scf.iv c0_i32_55 c1_i32_56 k0_t1
  let c6_i32_100 : BitVec 32 := 6#32
  let v75 : BitVec 32 := Scalar.addi arg11 c6_i32_100
  let c28_i32_101 : BitVec 32 := 28#32
  let v76 : BitVec 1 := Scalar.cmpi .slt v75 c28_i32_101
  let v77 : BitVec 32 := Scalar.extui v76
  let c0_i32_102 : BitVec 32 := 0#32
  let v78 : BitVec 1 := Scalar.cmpi .ne v77 c0_i32_102
  v78

def k0_off4 (k0_t1 : Fin k0_t1_loop.trips) : Fin 1 → Nat :=
  let c0_i32_55 : BitVec 32 := 0#32
  let c1_i32_56 : BitVec 32 := 1#32
  let arg11 : BitVec 32 := Scf.iv c0_i32_55 c1_i32_56 k0_t1
  let c6_i32 : BitVec 32 := 6#32
  let v54 : BitVec 32 := Scalar.remsi arg11 c6_i32
  ![v54.toNat]
def k0_off5 (k0_t1 : Fin k0_t1_loop.trips) : Fin 5 → Nat :=
  let c0_i32_55 : BitVec 32 := 0#32
  let c1_i32_56 : BitVec 32 := 1#32
  let arg11 : BitVec 32 := Scf.iv c0_i32_55 c1_i32_56 k0_t1
  let c6_i32 : BitVec 32 := 6#32
  let v54 : BitVec 32 := Scalar.remsi arg11 c6_i32
  let c0_i32_105 : BitVec 32 := 0#32
  let c0_i32_106 : BitVec 32 := 0#32
  let c0_i32_107 : BitVec 32 := 0#32
  let c0_i32_108 : BitVec 32 := 0#32
  ![v54.toNat, 0, 0, 0, 0]
def k0_off6 (k0_t1 : Fin k0_t1_loop.trips) : Fin 4 → Nat :=
  let c0_i32_55 : BitVec 32 := 0#32
  let c1_i32_56 : BitVec 32 := 1#32
  let arg11 : BitVec 32 := Scf.iv c0_i32_55 c1_i32_56 k0_t1
  let c6_i32_100 : BitVec 32 := 6#32
  let v75 : BitVec 32 := Scalar.addi arg11 c6_i32_100
  let c0_i32_109 : BitVec 32 := 0#32
  let c0_i32_110 : BitVec 32 := 0#32
  let c0_i32_111 : BitVec 32 := 0#32
  ![v75.toNat, 0, 0, 0]
def k0_cond2 (k0_t1 : Fin k0_t1_loop.trips) : BitVec 1 :=
  let c0_i32_55 : BitVec 32 := 0#32
  let c1_i32_56 : BitVec 32 := 1#32
  let arg11 : BitVec 32 := Scf.iv c0_i32_55 c1_i32_56 k0_t1
  let c6_i32_100 : BitVec 32 := 6#32
  let v75 : BitVec 32 := Scalar.addi arg11 c6_i32_100
  let c28_i32_103 : BitVec 32 := 28#32
  let v79 : BitVec 1 := Scalar.cmpi .sge v75 c28_i32_103
  let v80 : BitVec 32 := Scalar.extui v79
  let c0_i32_104 : BitVec 32 := 0#32
  let v81 : BitVec 1 := Scalar.cmpi .ne v80 c0_i32_104
  v81

def k0_off7 (k0_t1 : Fin k0_t1_loop.trips) : Fin 1 → Nat :=
  let c0_i32_55 : BitVec 32 := 0#32
  let c1_i32_56 : BitVec 32 := 1#32
  let arg11 : BitVec 32 := Scf.iv c0_i32_55 c1_i32_56 k0_t1
  let c6_i32_100 : BitVec 32 := 6#32
  let v75 : BitVec 32 := Scalar.addi arg11 c6_i32_100
  let c28_i32_105 : BitVec 32 := 28#32
  let v82 : BitVec 32 := Scalar.subi v75 c28_i32_105
  let c6_i32_107 : BitVec 32 := 6#32
  let v84 : BitVec 32 := Scalar.remsi v82 c6_i32_107
  ![v84.toNat]
def k0_off8 (k0_t1 : Fin k0_t1_loop.trips) : Fin 5 → Nat :=
  let c0_i32_55 : BitVec 32 := 0#32
  let c1_i32_56 : BitVec 32 := 1#32
  let arg11 : BitVec 32 := Scf.iv c0_i32_55 c1_i32_56 k0_t1
  let c6_i32_100 : BitVec 32 := 6#32
  let v75 : BitVec 32 := Scalar.addi arg11 c6_i32_100
  let c28_i32_105 : BitVec 32 := 28#32
  let v82 : BitVec 32 := Scalar.subi v75 c28_i32_105
  let c6_i32_106 : BitVec 32 := 6#32
  let v83 : BitVec 32 := Scalar.remsi v82 c6_i32_106
  let c0_i32_108 : BitVec 32 := 0#32
  let c0_i32_109 : BitVec 32 := 0#32
  let c0_i32_110 : BitVec 32 := 0#32
  let c0_i32_111 : BitVec 32 := 0#32
  ![v83.toNat, 0, 0, 0, 0]
def k0_off9 (k0_t1 : Fin k0_t1_loop.trips) : Fin 4 → Nat :=
  let c0_i32_55 : BitVec 32 := 0#32
  let c1_i32_56 : BitVec 32 := 1#32
  let arg11 : BitVec 32 := Scf.iv c0_i32_55 c1_i32_56 k0_t1
  let c6_i32_100 : BitVec 32 := 6#32
  let v75 : BitVec 32 := Scalar.addi arg11 c6_i32_100
  let c28_i32_105 : BitVec 32 := 28#32
  let v82 : BitVec 32 := Scalar.subi v75 c28_i32_105
  let c0_i32_112 : BitVec 32 := 0#32
  let c0_i32_113 : BitVec 32 := 0#32
  let c0_i32_114 : BitVec 32 := 0#32
  ![v82.toNat, 0, 0, 0]
@[reducible] def k0_t2_loop : Scf.Loop 32 :=
  let c0_i32_63 : BitVec 32 := 0#32
  let c56_i32 : BitVec 32 := 56#32
  let v43 : BitVec 32 := Scalar.addi c0_i32_63 c56_i32
  let c1_i32_64 : BitVec 32 := 1#32
  ⟨c0_i32_63, v43, c1_i32_64⟩
def k0_off10 (k0_t2 : Fin k0_t2_loop.trips) : Fin 1 → Nat :=
  let c0_i32_63 : BitVec 32 := 0#32
  let c1_i32_64 : BitVec 32 := 1#32
  let arg11 : BitVec 32 := Scf.iv c0_i32_63 c1_i32_64 k0_t2
  let c6_i32 : BitVec 32 := 6#32
  let v54 : BitVec 32 := Scalar.remsi arg11 c6_i32
  ![v54.toNat]
def k0_off11 (k0_t2 : Fin k0_t2_loop.trips) : Fin 5 → Nat :=
  let c0_i32_63 : BitVec 32 := 0#32
  let c1_i32_64 : BitVec 32 := 1#32
  let arg11 : BitVec 32 := Scf.iv c0_i32_63 c1_i32_64 k0_t2
  let c6_i32 : BitVec 32 := 6#32
  let v54 : BitVec 32 := Scalar.remsi arg11 c6_i32
  let c0_i32_81 : BitVec 32 := 0#32
  let c0_i32_82 : BitVec 32 := 0#32
  let c0_i32_83 : BitVec 32 := 0#32
  let c0_i32_84 : BitVec 32 := 0#32
  ![v54.toNat, 0, 0, 0, 0]
def k0_cond3 (k0_t2 : Fin k0_t2_loop.trips) : BitVec 1 :=
  let c0_i32_63 : BitVec 32 := 0#32
  let c1_i32_64 : BitVec 32 := 1#32
  let arg11 : BitVec 32 := Scf.iv c0_i32_63 c1_i32_64 k0_t2
  let c2_i32_89 : BitVec 32 := 2#32
  let v62 : BitVec 1 := Scalar.cmpi .sge arg11 c2_i32_89
  let v63 : BitVec 32 := Scalar.extui v62
  let c0_i32_90 : BitVec 32 := 0#32
  let v64 : BitVec 1 := Scalar.cmpi .ne v63 c0_i32_90
  v64

def k0_off12 (k0_t2 : Fin k0_t2_loop.trips) : Fin 1 → Nat :=
  let c0_i32_63 : BitVec 32 := 0#32
  let c1_i32_64 : BitVec 32 := 1#32
  let arg11 : BitVec 32 := Scf.iv c0_i32_63 c1_i32_64 k0_t2
  let c2_i32_80 : BitVec 32 := 2#32
  let v55 : BitVec 32 := Scalar.remsi arg11 c2_i32_80
  ![v55.toNat]
def k0_off13 (k0_t2 : Fin k0_t2_loop.trips) : Fin 3 → Nat :=
  let c0_i32_63 : BitVec 32 := 0#32
  let c1_i32_64 : BitVec 32 := 1#32
  let arg11 : BitVec 32 := Scf.iv c0_i32_63 c1_i32_64 k0_t2
  let c2_i32_111 : BitVec 32 := 2#32
  let v90 : BitVec 32 := Scalar.subi arg11 c2_i32_111
  let c0_i32_112 : BitVec 32 := 0#32
  let c0_i32_113 : BitVec 32 := 0#32
  ![v90.toNat, 0, 0]
def k0_off14 (k0_t2 : Fin k0_t2_loop.trips) : Fin 4 → Nat :=
  let c0_i32_63 : BitVec 32 := 0#32
  let c1_i32_64 : BitVec 32 := 1#32
  let arg11 : BitVec 32 := Scf.iv c0_i32_63 c1_i32_64 k0_t2
  let c2_i32_80 : BitVec 32 := 2#32
  let v55 : BitVec 32 := Scalar.remsi arg11 c2_i32_80
  let c0_i32_114 : BitVec 32 := 0#32
  let c0_i32_115 : BitVec 32 := 0#32
  let c0_i32_116 : BitVec 32 := 0#32
  ![v55.toNat, 0, 0, 0]
def k0_off15 (k0_t2 : Fin k0_t2_loop.trips) : Fin 5 → Nat :=
  let c0_i32_63 : BitVec 32 := 0#32
  let c1_i32_64 : BitVec 32 := 1#32
  let arg11 : BitVec 32 := Scf.iv c0_i32_63 c1_i32_64 k0_t2
  let c6_i32 : BitVec 32 := 6#32
  let v54 : BitVec 32 := Scalar.remsi arg11 c6_i32
  let v65 : Index := Scalar.indexCast v54
  let c0_91 : Index := 0#32
  let c0_92 : Index := 0#32
  let c0_93 : Index := 0#32
  let c0_94 : Index := 0#32
  ![v65.toNat, 0, 0, 0, 0]
def k0_off16 (k0_t2 : Fin k0_t2_loop.trips) : Fin 4 → Nat :=
  let c0_i32_63 : BitVec 32 := 0#32
  let c1_i32_64 : BitVec 32 := 1#32
  let arg11 : BitVec 32 := Scf.iv c0_i32_63 c1_i32_64 k0_t2
  let c2_i32_80 : BitVec 32 := 2#32
  let v55 : BitVec 32 := Scalar.remsi arg11 c2_i32_80
  let v77 : Index := Scalar.indexCast v55
  let c0_100 : Index := 0#32
  let c0_101 : Index := 0#32
  let c0_102 : Index := 0#32
  ![v77.toNat, 0, 0, 0]
def k0_off17 (k0_t2 : Fin k0_t2_loop.trips) : Fin 1 → Nat :=
  let c0_i32_63 : BitVec 32 := 0#32
  let c1_i32_64 : BitVec 32 := 1#32
  let arg11 : BitVec 32 := Scf.iv c0_i32_63 c1_i32_64 k0_t2
  let c2_i32_80 : BitVec 32 := 2#32
  let v55 : BitVec 32 := Scalar.remsi arg11 c2_i32_80
  ![v55.toNat]
def k0_off18 (k0_t2 : Fin k0_t2_loop.trips) : Fin 3 → Nat :=
  let c0_i32_63 : BitVec 32 := 0#32
  let c1_i32_64 : BitVec 32 := 1#32
  let arg11 : BitVec 32 := Scf.iv c0_i32_63 c1_i32_64 k0_t2
  let c0_i32_103 : BitVec 32 := 0#32
  let c0_i32_104 : BitVec 32 := 0#32
  ![arg11.toNat, 0, 0]
def k0_off19 (k0_t2 : Fin k0_t2_loop.trips) : Fin 4 → Nat :=
  let c0_i32_63 : BitVec 32 := 0#32
  let c1_i32_64 : BitVec 32 := 1#32
  let arg11 : BitVec 32 := Scf.iv c0_i32_63 c1_i32_64 k0_t2
  let c2_i32_80 : BitVec 32 := 2#32
  let v55 : BitVec 32 := Scalar.remsi arg11 c2_i32_80
  let c0_i32_105 : BitVec 32 := 0#32
  let c0_i32_106 : BitVec 32 := 0#32
  let c0_i32_107 : BitVec 32 := 0#32
  ![v55.toNat, 0, 0, 0]
def k0_cond4 (k0_t2 : Fin k0_t2_loop.trips) : BitVec 1 :=
  let c0_i32_63 : BitVec 32 := 0#32
  let c1_i32_64 : BitVec 32 := 1#32
  let arg11 : BitVec 32 := Scf.iv c0_i32_63 c1_i32_64 k0_t2
  let c6_i32_108 : BitVec 32 := 6#32
  let v86 : BitVec 32 := Scalar.addi arg11 c6_i32_108
  let c56_i32_109 : BitVec 32 := 56#32
  let v87 : BitVec 1 := Scalar.cmpi .slt v86 c56_i32_109
  let v88 : BitVec 32 := Scalar.extui v87
  let c0_i32_110 : BitVec 32 := 0#32
  let v89 : BitVec 1 := Scalar.cmpi .ne v88 c0_i32_110
  v89

def k0_off20 (k0_t2 : Fin k0_t2_loop.trips) : Fin 1 → Nat :=
  let c0_i32_63 : BitVec 32 := 0#32
  let c1_i32_64 : BitVec 32 := 1#32
  let arg11 : BitVec 32 := Scf.iv c0_i32_63 c1_i32_64 k0_t2
  let c6_i32 : BitVec 32 := 6#32
  let v54 : BitVec 32 := Scalar.remsi arg11 c6_i32
  ![v54.toNat]
def k0_off21 (k0_t2 : Fin k0_t2_loop.trips) : Fin 5 → Nat :=
  let c0_i32_63 : BitVec 32 := 0#32
  let c1_i32_64 : BitVec 32 := 1#32
  let arg11 : BitVec 32 := Scf.iv c0_i32_63 c1_i32_64 k0_t2
  let c6_i32 : BitVec 32 := 6#32
  let v54 : BitVec 32 := Scalar.remsi arg11 c6_i32
  let c0_i32_111 : BitVec 32 := 0#32
  let c0_i32_112 : BitVec 32 := 0#32
  let c0_i32_113 : BitVec 32 := 0#32
  let c0_i32_114 : BitVec 32 := 0#32
  ![v54.toNat, 0, 0, 0, 0]
def k0_off22 (k0_t2 : Fin k0_t2_loop.trips) : Fin 4 → Nat :=
  let c0_i32_63 : BitVec 32 := 0#32
  let c1_i32_64 : BitVec 32 := 1#32
  let arg11 : BitVec 32 := Scf.iv c0_i32_63 c1_i32_64 k0_t2
  let c6_i32_108 : BitVec 32 := 6#32
  let v86 : BitVec 32 := Scalar.addi arg11 c6_i32_108
  let c0_i32_115 : BitVec 32 := 0#32
  let c0_i32_116 : BitVec 32 := 0#32
  let c0_i32_117 : BitVec 32 := 0#32
  ![v86.toNat, 0, 0, 0]
-- ==== ReferenceIdeal.lean ====
abbrev S128x256x28x28 : Shape := ⟨4, ![128, 256, 28, 28]⟩
abbrev S128x512x14x14 : Shape := ⟨4, ![128, 512, 14, 14]⟩
abbrev S_ : Shape := ⟨0, ![]⟩
abbrev S128 : Shape := ⟨1, ![128]⟩
abbrev S256x28x28 : Shape := ⟨3, ![256, 28, 28]⟩

abbrev nBuf : Space → Nat
  | .hbm => 13
  | .vmem => 0
  | .smem => 0
  | _ => 0

abbrev bufTy : (tb : Table) → Fin (tcTables nBuf tb) → BufTy
  | .hbm, ⟨0, _⟩ => ⟨S128x256x28x28, .f32⟩
  | .hbm, ⟨1, _⟩ => ⟨S128x512x14x14, .f32⟩
  | .hbm, ⟨2, _⟩ => ⟨S_, .f32⟩
  | .hbm, ⟨3, _⟩ => ⟨S128x256x28x28, .f32⟩
  | .hbm, ⟨4, _⟩ => ⟨S128x256x28x28, .i1⟩
  | .hbm, ⟨5, _⟩ => ⟨S128x256x28x28, .f32⟩
  | .hbm, ⟨6, _⟩ => ⟨S_, .f32⟩
  | .hbm, ⟨7, _⟩ => ⟨S128x512x14x14, .f32⟩
  | .hbm, ⟨8, _⟩ => ⟨S128x512x14x14, .i1⟩
  | .hbm, ⟨9, _⟩ => ⟨S128x512x14x14, .f32⟩
  | .hbm, ⟨10, _⟩ => ⟨S_, .f32⟩
  | .hbm, ⟨11, _⟩ => ⟨S128, .f32⟩
  | .hbm, ⟨12, _⟩ => ⟨S256x28x28, .f32⟩
  | _, _ => ⟨S128x256x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Names.lean ====
/-
  The names the streaming kernel's transfers are reasoned about under: each block of the two inputs and of the output, each slot of
  the three scratch buffers, each slot's DMA semaphore, and the closed forms of the offsets the kernel computes for them.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Ring
public import Idealize.ShloMosaic.Lib.Ring.Trips
public import Idealize.ShloMosaic.Lib.Affine
public import Idealize.ShloMosaic.Lib.Tactic

@[expose] public section

set_option maxRecDepth 16384

noncomputable section

namespace Cert.Proof.Stream

open Cert.KernelIdeal Cert.KernelIdeal.Gen
open Idealize.ShloMosaic Idealize.ShloMosaic.TcCoe Idealize.ShloMosaic.Tactic
open Idealize.SL Idealize.SL.Sem

/-! ## The buffers whole -/

/-- The first input, laid out by the host as 28 blocks. -/
abbrev cM : Memref sig .tc .hbm S28x7x128x512 .f32 := Memref.whole main_v3
/-- The second input, laid out by the host as 56 blocks. -/
abbrev pM : Memref sig .tc .hbm S56x14x128x256 .f32 := Memref.whole main_v1
/-- The output, 56 blocks. -/
abbrev oM : Memref sig .tc .hbm S56x14x256 .f32 := Memref.whole main_v4
/-- The six slots the first input streams through. -/
abbrev cB : Memref sig .tc .vmem S6x1x7x128x512 .f32 := Memref.whole cc0_scratch0
/-- The six slots the second input streams through. -/
abbrev pB : Memref sig .tc .vmem S6x1x14x128x256 .f32 := Memref.whole cc0_scratch1
/-- The two slots the output leaves by. -/
abbrev oB : Memref sig .tc .vmem S2x1x14x256 .f32 := Memref.whole cc0_scratch2
/-- The accumulator of the first loop. -/
abbrev aB : Memref sig .tc .vmem S128x512 .f32 := Memref.whole cc0_scratch3
/-- The weights the second loop selects. -/
abbrev wB : Memref sig .tc .vmem S128x256 .f32 := Memref.whole cc0_scratch4

/-! ## Blocks, slots, semaphores -/

abbrev cHomeOff (b : Fin 28) : Fin 4 → Nat := ![b.val, 0, 0, 0]
abbrev pHomeOff (b : Fin 56) : Fin 4 → Nat := ![b.val, 0, 0, 0]
abbrev oHomeOff (b : Fin 56) : Fin 3 → Nat := ![b.val, 0, 0]
abbrev inOff (s : Fin 6) : Fin 5 → Nat := ![s.val, 0, 0, 0, 0]
abbrev outOff (s : Fin 2) : Fin 4 → Nat := ![s.val, 0, 0, 0]
abbrev sem6Off (s : Fin 6) : Fin 1 → Nat := ![s.val]
abbrev sem2Off (s : Fin 2) : Fin 1 → Nat := ![s.val]

/-- Every block of the second input lies inside the array. -/
theorem cHomeOff_inb : ∀ b : Fin 28, ∀ a, cHomeOff b a + S1x7x128x512.size a ≤ S28x7x128x512.size a := by decide
/-- Every block of the first input lies inside the array. -/
theorem pHomeOff_inb : ∀ b : Fin 56, ∀ a, pHomeOff b a + S1x14x128x256.size a ≤ S56x14x128x256.size a := by decide
/-- Every block of the output lies inside the array. -/
theorem oHomeOff_inb : ∀ b : Fin 56, ∀ a, oHomeOff b a + S1x14x256.size a ≤ S56x14x256.size a := by decide
/-- Every slot for blocks of the second input lies inside the buffer. -/
theorem cSlotOff_inb : ∀ s : Fin 6, ∀ a, inOff s a + S1x1x7x128x512.size a ≤ S6x1x7x128x512.size a := by decide
/-- Every slot for blocks of the first input lies inside the buffer. -/
theorem pSlotOff_inb : ∀ s : Fin 6, ∀ a, inOff s a + S1x1x14x128x256.size a ≤ S6x1x14x128x256.size a := by decide
/-- Every slot for blocks of the output lies inside the buffer. -/
theorem oSlotOff_inb : ∀ s : Fin 2, ∀ a, outOff s a + S1x1x14x256.size a ≤ S2x1x14x256.size a := by decide
/-- Every one of six semaphores lies inside the array. -/
theorem sem6Off_inb : ∀ s : Fin 6, ∀ a, sem6Off s a + S1.size a ≤ S6.size a := by decide
/-- Every one of two semaphores lies inside the array. -/
theorem sem2Off_inb : ∀ s : Fin 2, ∀ a, sem2Off s a + S1.size a ≤ S2.size a := by decide

/-- Block `b` of the first input. -/
def cHome (b : Fin 28) : Memref sig .tc .hbm S1x7x128x512 .f32 :=
  cM.slice (Rect.unit (s := S28x7x128x512) (cHomeOff b) S1x7x128x512.size (cHomeOff_inb b)) (fun _ => rfl)
/-- Block `b` of the second input. -/
def pHome (b : Fin 56) : Memref sig .tc .hbm S1x14x128x256 .f32 :=
  pM.slice (Rect.unit (s := S56x14x128x256) (pHomeOff b) S1x14x128x256.size (pHomeOff_inb b)) (fun _ => rfl)
/-- Block `b` of the output. -/
def oHome (b : Fin 56) : Memref sig .tc .hbm S1x14x256 .f32 :=
  oM.slice (Rect.unit (s := S56x14x256) (oHomeOff b) S1x14x256.size (oHomeOff_inb b)) (fun _ => rfl)
/-- Slot `s` of the first input's buffer. -/
def cSlot (s : Fin 6) : Memref sig .tc .vmem S1x7x128x512 .f32 :=
  (cB.slice (Rect.unit (s := S6x1x7x128x512) (inOff s) S1x1x7x128x512.size (cSlotOff_inb s)) (fun _ => rfl)).squeeze S1x7x128x512 squeezes_S1x1x7x128x512_S1x7x128x512
/-- Slot `s` of the second input's buffer. -/
def pSlot (s : Fin 6) : Memref sig .tc .vmem S1x14x128x256 .f32 :=
  (pB.slice (Rect.unit (s := S6x1x14x128x256) (inOff s) S1x1x14x128x256.size (pSlotOff_inb s)) (fun _ => rfl)).squeeze S1x14x128x256 squeezes_S1x1x14x128x256_S1x14x128x256
/-- Slot `s` of the output's buffer. -/
def oSlot (s : Fin 2) : Memref sig .tc .vmem S1x14x256 .f32 :=
  (oB.slice (Rect.unit (s := S2x1x14x256) (outOff s) S1x1x14x256.size (oSlotOff_inb s)) (fun _ => rfl)).squeeze S1x14x256 squeezes_S1x1x14x256_S1x14x256
/-- The semaphore of slot `s` of the first input's buffer; -/
def cSem (s : Fin 6) : DmaSems sig S_ := (cc0_scratch5.slice (Rect.unit (s := S6) (sem6Off s) S1.size (sem6Off_inb s))).squeeze S_ squeezes_S1_S_
/-- of the second's; -/
def pSem (s : Fin 6) : DmaSems sig S_ := (cc0_scratch6.slice (Rect.unit (s := S6) (sem6Off s) S1.size (sem6Off_inb s))).squeeze S_ squeezes_S1_S_
/-- of the output's. -/
def oSem (s : Fin 2) : DmaSems sig S_ := (cc0_scratch7.slice (Rect.unit (s := S2) (sem2Off s) S1.size (sem2Off_inb s))).squeeze S_ squeezes_S1_S_

instance (s : Fin 6) : ClosedOff (inOff s) := ⟨inOff s, rfl⟩
instance (s : Fin 2) : ClosedOff (outOff s) := ⟨outOff s, rfl⟩
instance (b : Fin 28) : ClosedOff (cHomeOff b) := ⟨cHomeOff b, rfl⟩
instance (b : Fin 56) : ClosedOff (pHomeOff b) := ⟨pHomeOff b, rfl⟩
instance (b : Fin 56) : ClosedOff (oHomeOff b) := ⟨oHomeOff b, rfl⟩

/-! ## The computed conditions and offsets, in closed form -/

/-- The first loop has 28 trips. -/
theorem trips1 : k0_t1_loop.trips = 28 := by decide
/-- The second loop has 56 trips. -/
theorem trips2 : k0_t2_loop.trips = 56 := by decide

/-- The first loop fetches another block of the first input at the trips before 22; -/
theorem cond1_iff : ∀ k : Fin k0_t1_loop.trips, k0_cond1 k = 1#1 ↔ k.val < 22 := by decide
/-- from trip 22 on it fetches blocks of the second. -/
theorem cond2_iff : ∀ k : Fin k0_t1_loop.trips, k0_cond2 k = 1#1 ↔ 22 ≤ k.val := by decide
/-- The second loop waits for an earlier output block from trip 2 on, -/
theorem cond3_iff : ∀ k : Fin k0_t2_loop.trips, k0_cond3 k = 1#1 ↔ 2 ≤ k.val := by decide
/-- and fetches another block at the trips before 50. -/
theorem cond4_iff : ∀ k : Fin k0_t2_loop.trips, k0_cond4 k = 1#1 ↔ k.val < 50 := by decide

/-- Offset 1 of the printed loops, by the trip's slot or block number. -/
theorem off1_eq : ∀ k : Fin k0_t1_loop.trips, k0_off1 k = sem6Off (Ring.sl 6 k.val) := by decide
/-- Offset 2 of the printed loops, by the trip's slot or block number. -/
theorem off2_eq : ∀ k : Fin k0_t1_loop.trips, k0_off2 k = inOff (Ring.sl 6 k.val) := by decide
/-- Offset 3 of the printed loops, by the trip's slot or block number. -/
theorem off3_eq : ∀ k : Fin k0_t1_loop.trips, k0_off3 k = inOff (Ring.sl 6 k.val) := by decide
/-- Offset 4 of the printed loops, by the trip's slot or block number. -/
theorem off4_eq : ∀ k : Fin k0_t1_loop.trips, k0_off4 k = sem6Off (Ring.sl 6 k.val) := by decide
/-- Offset 5 of the printed loops, by the trip's slot or block number. -/
theorem off5_eq : ∀ k : Fin k0_t1_loop.trips, k0_off5 k = inOff (Ring.sl 6 k.val) := by decide
/-- Offset 6 of the printed loops, by the trip's slot or block number. -/
theorem off6_eq : ∀ k : Fin k0_t1_loop.trips, k.val < 22 → k0_off6 k = cHomeOff (Ring.bk 28 (k.val + 6)) := by decide
/-- Offset 7 of the printed loops, by the trip's slot or block number. -/
theorem off7_eq : ∀ k : Fin k0_t1_loop.trips, 22 ≤ k.val → k0_off7 k = sem6Off (Ring.sl 6 (k.val - 22)) := by decide
/-- Offset 8 of the printed loops, by the trip's slot or block number. -/
theorem off8_eq : ∀ k : Fin k0_t1_loop.trips, 22 ≤ k.val → k0_off8 k = inOff (Ring.sl 6 (k.val - 22)) := by decide
/-- Offset 9 of the printed loops, by the trip's slot or block number. -/
theorem off9_eq : ∀ k : Fin k0_t1_loop.trips, 22 ≤ k.val → k0_off9 k = pHomeOff (Ring.bk 56 (k.val - 22)) := by decide
/-- Offset 10 of the printed loops, by the trip's slot or block number. -/
theorem off10_eq : ∀ k : Fin k0_t2_loop.trips, k0_off10 k = sem6Off (Ring.sl 6 k.val) := by decide
/-- Offset 11 of the printed loops, by the trip's slot or block number. -/
theorem off11_eq : ∀ k : Fin k0_t2_loop.trips, k0_off11 k = inOff (Ring.sl 6 k.val) := by decide
/-- Offset 12 of the printed loops, by the trip's slot or block number. -/
theorem off12_eq : ∀ k : Fin k0_t2_loop.trips, k0_off12 k = sem2Off (Ring.sl 2 k.val) := by decide
/-- Offset 13 of the printed loops, by the trip's slot or block number. -/
theorem off13_eq : ∀ k : Fin k0_t2_loop.trips, 2 ≤ k.val → k0_off13 k = oHomeOff (Ring.bk 56 (k.val - 2)) := by decide
/-- Offset 14 of the printed loops, by the trip's slot or block number. -/
theorem off14_eq : ∀ k : Fin k0_t2_loop.trips, k0_off14 k = outOff (Ring.sl 2 k.val) := by decide
/-- Offset 15 of the printed loops, by the trip's slot or block number. -/
theorem off15_eq : ∀ k : Fin k0_t2_loop.trips, k0_off15 k = inOff (Ring.sl 6 k.val) := by decide
/-- Offset 16 of the printed loops, by the trip's slot or block number. -/
theorem off16_eq : ∀ k : Fin k0_t2_loop.trips, k0_off16 k = outOff (Ring.sl 2 k.val) := by decide
/-- Offset 17 of the printed loops, by the trip's slot or block number. -/
theorem off17_eq : ∀ k : Fin k0_t2_loop.trips, k0_off17 k = sem2Off (Ring.sl 2 k.val) := by decide
/-- Offset 18 of the printed loops, by the trip's slot or block number. -/
theorem off18_eq : ∀ k : Fin k0_t2_loop.trips, k0_off18 k = oHomeOff (Ring.bk 56 k.val) := by decide
/-- Offset 19 of the printed loops, by the trip's slot or block number. -/
theorem off19_eq : ∀ k : Fin k0_t2_loop.trips, k0_off19 k = outOff (Ring.sl 2 k.val) := by decide
/-- Offset 20 of the printed loops, by the trip's slot or block number. -/
theorem off20_eq : ∀ k : Fin k0_t2_loop.trips, k0_off20 k = sem6Off (Ring.sl 6 k.val) := by decide
/-- Offset 21 of the printed loops, by the trip's slot or block number. -/
theorem off21_eq : ∀ k : Fin k0_t2_loop.trips, k0_off21 k = inOff (Ring.sl 6 k.val) := by decide
/-- Offset 22 of the printed loops, by the trip's slot or block number. -/
theorem off22_eq : ∀ k : Fin k0_t2_loop.trips, k.val < 50 → k0_off22 k = pHomeOff (Ring.bk 56 (k.val + 6)) := by decide

instance (k : Fin k0_t1_loop.trips) : ClosedOff (k0_off2 k) := ⟨inOff (Ring.sl 6 k.val), off2_eq k⟩
instance (k : Fin k0_t1_loop.trips) : ClosedOff (k0_off3 k) := ⟨inOff (Ring.sl 6 k.val), off3_eq k⟩
instance (k : Fin k0_t1_loop.trips) : ClosedOff (k0_off5 k) := ⟨inOff (Ring.sl 6 k.val), off5_eq k⟩
instance (k : Fin k0_t2_loop.trips) : ClosedOff (k0_off11 k) := ⟨inOff (Ring.sl 6 k.val), off11_eq k⟩
instance (k : Fin k0_t2_loop.trips) : ClosedOff (k0_off14 k) := ⟨outOff (Ring.sl 2 k.val), off14_eq k⟩
instance (k : Fin k0_t2_loop.trips) : ClosedOff (k0_off15 k) := ⟨inOff (Ring.sl 6 k.val), off15_eq k⟩
instance (k : Fin k0_t2_loop.trips) : ClosedOff (k0_off16 k) := ⟨outOff (Ring.sl 2 k.val), off16_eq k⟩
instance (k : Fin k0_t2_loop.trips) : ClosedOff (k0_off19 k) := ⟨outOff (Ring.sl 2 k.val), off19_eq k⟩
instance (k : Fin k0_t2_loop.trips) : ClosedOff (k0_off21 k) := ⟨inOff (Ring.sl 6 k.val), off21_eq k⟩

/-! ## The kernel's slices are these names -/

/-- The semaphore of the second input at an offset known to be that of a number, by the number. -/
theorem cSem_of {off : Fin 1 → Nat} {s : Fin 6} (e : off = sem6Off s) (hh) :
    (cc0_scratch5.slice (Rect.unit (s := S6) off S1.size hh)).squeeze S_ squeezes_S1_S_ = cSem s :=
  congrArg (fun A : DmaSems sig S1 => A.squeeze S_ squeezes_S1_S_) (SemArray.slice_unit_congr _ e _ _)
/-- The semaphore of the first input at an offset known to be that of a number, by the number. -/
theorem pSem_of {off : Fin 1 → Nat} {s : Fin 6} (e : off = sem6Off s) (hh) :
    (cc0_scratch6.slice (Rect.unit (s := S6) off S1.size hh)).squeeze S_ squeezes_S1_S_ = pSem s :=
  congrArg (fun A : DmaSems sig S1 => A.squeeze S_ squeezes_S1_S_) (SemArray.slice_unit_congr _ e _ _)
/-- The semaphore of the output at an offset known to be that of a number, by the number. -/
theorem oSem_of {off : Fin 1 → Nat} {s : Fin 2} (e : off = sem2Off s) (hh) :
    (cc0_scratch7.slice (Rect.unit (s := S2) off S1.size hh)).squeeze S_ squeezes_S1_S_ = oSem s :=
  congrArg (fun A : DmaSems sig S1 => A.squeeze S_ squeezes_S1_S_) (SemArray.slice_unit_congr _ e _ _)
/-- The slot of the second input at an offset known to be that of a number, by the number. -/
theorem cSlot_of {off : Fin 5 → Nat} {s : Fin 6} (e : off = inOff s) (hh hs) :
    (cB.slice (Rect.unit (s := S6x1x7x128x512) off S1x1x7x128x512.size hh) hs).squeeze S1x7x128x512 squeezes_S1x1x7x128x512_S1x7x128x512 = cSlot s :=
  congrArg (fun M : Memref sig .tc .vmem S1x1x7x128x512 .f32 => M.squeeze S1x7x128x512 squeezes_S1x1x7x128x512_S1x7x128x512) (Memref.slice_unit_congr _ e _ _ _ _)
/-- The slot of the first input at an offset known to be that of a number, by the number. -/
theorem pSlot_of {off : Fin 5 → Nat} {s : Fin 6} (e : off = inOff s) (hh hs) :
    (pB.slice (Rect.unit (s := S6x1x14x128x256) off S1x1x14x128x256.size hh) hs).squeeze S1x14x128x256 squeezes_S1x1x14x128x256_S1x14x128x256 = pSlot s :=
  congrArg (fun M : Memref sig .tc .vmem S1x1x14x128x256 .f32 => M.squeeze S1x14x128x256 squeezes_S1x1x14x128x256_S1x14x128x256) (Memref.slice_unit_congr _ e _ _ _ _)
/-- The slot of the output at an offset known to be that of a number, by the number. -/
theorem oSlot_of {off : Fin 4 → Nat} {s : Fin 2} (e : off = outOff s) (hh hs) :
    (oB.slice (Rect.unit (s := S2x1x14x256) off S1x1x14x256.size hh) hs).squeeze S1x14x256 squeezes_S1x1x14x256_S1x14x256 = oSlot s :=
  congrArg (fun M : Memref sig .tc .vmem S1x1x14x256 .f32 => M.squeeze S1x14x256 squeezes_S1x1x14x256_S1x14x256) (Memref.slice_unit_congr _ e _ _ _ _)
/-- The block of the second input at an offset known to be that of a number, by the number. -/
theorem cHome_of {off : Fin 4 → Nat} {b : Fin 28} (e : off = cHomeOff b) (hh hs) :
    cM.slice (Rect.unit (s := S28x7x128x512) off S1x7x128x512.size hh) hs = cHome b := Memref.slice_unit_congr _ e _ _ _ (fun _ => rfl)
/-- The block of the first input at an offset known to be that of a number, by the number. -/
theorem pHome_of {off : Fin 4 → Nat} {b : Fin 56} (e : off = pHomeOff b) (hh hs) :
    pM.slice (Rect.unit (s := S56x14x128x256) off S1x14x128x256.size hh) hs = pHome b := Memref.slice_unit_congr _ e _ _ _ (fun _ => rfl)
/-- The block of the output at an offset known to be that of a number, by the number. -/
theorem oHome_of {off : Fin 3 → Nat} {b : Fin 56} (e : off = oHomeOff b) (hh hs) :
    oM.slice (Rect.unit (s := S56x14x256) off S1x14x256.size hh) hs = oHome b := Memref.slice_unit_congr _ e _ _ _ (fun _ => rfl)

/-! The slices the straight-line code spells with literal offsets: the six prologue transfers' and the two waits at the end. -/

/-- The semaphore of the second input numbered 0, as printed outside the loops. -/
@[sl_canon] theorem cSem_lit0 (hh) : (cc0_scratch5.slice (Rect.unit (s := S6) ![0] S1.size hh)).squeeze S_ squeezes_S1_S_ = cSem 0 := cSem_of (by decide) _
/-- The slot of the second input numbered 0, as printed outside the loops. -/
@[sl_canon] theorem cSlot_lit0 (hh hs) : (cB.slice (Rect.unit (s := S6x1x7x128x512) ![0, 0, 0, 0, 0] S1x1x7x128x512.size hh) hs).squeeze S1x7x128x512 squeezes_S1x1x7x128x512_S1x7x128x512 = cSlot 0 := cSlot_of (by decide) _ _
/-- The block of the second input numbered 0, as printed outside the loops. -/
@[sl_canon] theorem cHome_lit0 (hh hs) : cM.slice (Rect.unit (s := S28x7x128x512) ![0, 0, 0, 0] S1x7x128x512.size hh) hs = cHome 0 := cHome_of (by decide) _ _
/-- The semaphore of the second input numbered 1, as printed outside the loops. -/
@[sl_canon] theorem cSem_lit1 (hh) : (cc0_scratch5.slice (Rect.unit (s := S6) ![1] S1.size hh)).squeeze S_ squeezes_S1_S_ = cSem 1 := cSem_of (by decide) _
/-- The slot of the second input numbered 1, as printed outside the loops. -/
@[sl_canon] theorem cSlot_lit1 (hh hs) : (cB.slice (Rect.unit (s := S6x1x7x128x512) ![1, 0, 0, 0, 0] S1x1x7x128x512.size hh) hs).squeeze S1x7x128x512 squeezes_S1x1x7x128x512_S1x7x128x512 = cSlot 1 := cSlot_of (by decide) _ _
/-- The block of the second input numbered 1, as printed outside the loops. -/
@[sl_canon] theorem cHome_lit1 (hh hs) : cM.slice (Rect.unit (s := S28x7x128x512) ![1, 0, 0, 0] S1x7x128x512.size hh) hs = cHome 1 := cHome_of (by decide) _ _
/-- The semaphore of the second input numbered 2, as printed outside the loops. -/
@[sl_canon] theorem cSem_lit2 (hh) : (cc0_scratch5.slice (Rect.unit (s := S6) ![2] S1.size hh)).squeeze S_ squeezes_S1_S_ = cSem 2 := cSem_of (by decide) _
/-- The slot of the second input numbered 2, as printed outside the loops. -/
@[sl_canon] theorem cSlot_lit2 (hh hs) : (cB.slice (Rect.unit (s := S6x1x7x128x512) ![2, 0, 0, 0, 0] S1x1x7x128x512.size hh) hs).squeeze S1x7x128x512 squeezes_S1x1x7x128x512_S1x7x128x512 = cSlot 2 := cSlot_of (by decide) _ _
/-- The block of the second input numbered 2, as printed outside the loops. -/
@[sl_canon] theorem cHome_lit2 (hh hs) : cM.slice (Rect.unit (s := S28x7x128x512) ![2, 0, 0, 0] S1x7x128x512.size hh) hs = cHome 2 := cHome_of (by decide) _ _
/-- The semaphore of the second input numbered 3, as printed outside the loops. -/
@[sl_canon] theorem cSem_lit3 (hh) : (cc0_scratch5.slice (Rect.unit (s := S6) ![3] S1.size hh)).squeeze S_ squeezes_S1_S_ = cSem 3 := cSem_of (by decide) _
/-- The slot of the second input numbered 3, as printed outside the loops. -/
@[sl_canon] theorem cSlot_lit3 (hh hs) : (cB.slice (Rect.unit (s := S6x1x7x128x512) ![3, 0, 0, 0, 0] S1x1x7x128x512.size hh) hs).squeeze S1x7x128x512 squeezes_S1x1x7x128x512_S1x7x128x512 = cSlot 3 := cSlot_of (by decide) _ _
/-- The block of the second input numbered 3, as printed outside the loops. -/
@[sl_canon] theorem cHome_lit3 (hh hs) : cM.slice (Rect.unit (s := S28x7x128x512) ![3, 0, 0, 0] S1x7x128x512.size hh) hs = cHome 3 := cHome_of (by decide) _ _
/-- The semaphore of the second input numbered 4, as printed outside the loops. -/
@[sl_canon] theorem cSem_lit4 (hh) : (cc0_scratch5.slice (Rect.unit (s := S6) ![4] S1.size hh)).squeeze S_ squeezes_S1_S_ = cSem 4 := cSem_of (by decide) _
/-- The slot of the second input numbered 4, as printed outside the loops. -/
@[sl_canon] theorem cSlot_lit4 (hh hs) : (cB.slice (Rect.unit (s := S6x1x7x128x512) ![4, 0, 0, 0, 0] S1x1x7x128x512.size hh) hs).squeeze S1x7x128x512 squeezes_S1x1x7x128x512_S1x7x128x512 = cSlot 4 := cSlot_of (by decide) _ _
/-- The block of the second input numbered 4, as printed outside the loops. -/
@[sl_canon] theorem cHome_lit4 (hh hs) : cM.slice (Rect.unit (s := S28x7x128x512) ![4, 0, 0, 0] S1x7x128x512.size hh) hs = cHome 4 := cHome_of (by decide) _ _
/-- The semaphore of the second input numbered 5, as printed outside the loops. -/
@[sl_canon] theorem cSem_lit5 (hh) : (cc0_scratch5.slice (Rect.unit (s := S6) ![5] S1.size hh)).squeeze S_ squeezes_S1_S_ = cSem 5 := cSem_of (by decide) _
/-- The slot of the second input numbered 5, as printed outside the loops. -/
@[sl_canon] theorem cSlot_lit5 (hh hs) : (cB.slice (Rect.unit (s := S6x1x7x128x512) ![5, 0, 0, 0, 0] S1x1x7x128x512.size hh) hs).squeeze S1x7x128x512 squeezes_S1x1x7x128x512_S1x7x128x512 = cSlot 5 := cSlot_of (by decide) _ _
/-- The block of the second input numbered 5, as printed outside the loops. -/
@[sl_canon] theorem cHome_lit5 (hh hs) : cM.slice (Rect.unit (s := S28x7x128x512) ![5, 0, 0, 0] S1x7x128x512.size hh) hs = cHome 5 := cHome_of (by decide) _ _
/-- The semaphore of the output numbered 0, as printed outside the loops. -/
@[sl_canon] theorem oSem_lit0 (hh) : (cc0_scratch7.slice (Rect.unit (s := S2) ![0] S1.size hh)).squeeze S_ squeezes_S1_S_ = oSem 0 := oSem_of (by decide) _
/-- The slot of the output numbered 0, as printed outside the loops. -/
@[sl_canon] theorem oSlot_lit0 (hh hs) : (oB.slice (Rect.unit (s := S2x1x14x256) ![0, 0, 0, 0] S1x1x14x256.size hh) hs).squeeze S1x14x256 squeezes_S1x1x14x256_S1x14x256 = oSlot 0 := oSlot_of (by decide) _ _
/-- The block of the output numbered 54, as printed outside the loops. -/
@[sl_canon] theorem oHome_lit54 (hh hs) : oM.slice (Rect.unit (s := S56x14x256) ![54, 0, 0] S1x14x256.size hh) hs = oHome 54 := oHome_of (by decide) _ _
/-- The semaphore of the output numbered 1, as printed outside the loops. -/
@[sl_canon] theorem oSem_lit1 (hh) : (cc0_scratch7.slice (Rect.unit (s := S2) ![1] S1.size hh)).squeeze S_ squeezes_S1_S_ = oSem 1 := oSem_of (by decide) _
/-- The slot of the output numbered 1, as printed outside the loops. -/
@[sl_canon] theorem oSlot_lit1 (hh hs) : (oB.slice (Rect.unit (s := S2x1x14x256) ![1, 0, 0, 0] S1x1x14x256.size hh) hs).squeeze S1x14x256 squeezes_S1x1x14x256_S1x14x256 = oSlot 1 := oSlot_of (by decide) _ _
/-- The block of the output numbered 55, as printed outside the loops. -/
@[sl_canon] theorem oHome_lit55 (hh hs) : oM.slice (Rect.unit (s := S56x14x256) ![55, 0, 0] S1x14x256.size hh) hs = oHome 55 := oHome_of (by decide) _ _

/-! The slices of the first loop's trip `k`. -/

/-- The semaphore of the second input that a trip waits for. -/
@[sl_canon] theorem cSem_wait (k : Fin k0_t1_loop.trips) (hh) : (cc0_scratch5.slice (Rect.unit (s := S6) (k0_off1 k) S1.size hh)).squeeze S_ squeezes_S1_S_ = cSem (Ring.sl 6 k.val) := cSem_of (off1_eq k) _
/-- The slot of the second input that a trip waits for. -/
@[sl_canon] theorem cSlot_wait (k : Fin k0_t1_loop.trips) (hh hs) : (cB.slice (Rect.unit (s := S6x1x7x128x512) (k0_off2 k) S1x1x7x128x512.size hh) hs).squeeze S1x7x128x512 squeezes_S1x1x7x128x512_S1x7x128x512 = cSlot (Ring.sl 6 k.val) := cSlot_of (off2_eq k) _ _
/-- The semaphore of the second input that a trip sends out. -/
@[sl_canon] theorem cSem_next (k : Fin k0_t1_loop.trips) (hh) : (cc0_scratch5.slice (Rect.unit (s := S6) (k0_off4 k) S1.size hh)).squeeze S_ squeezes_S1_S_ = cSem (Ring.sl 6 k.val) := cSem_of (off4_eq k) _
/-- The slot of the second input that a trip sends out. -/
@[sl_canon] theorem cSlot_next (k : Fin k0_t1_loop.trips) (hh hs) : (cB.slice (Rect.unit (s := S6x1x7x128x512) (k0_off5 k) S1x1x7x128x512.size hh) hs).squeeze S1x7x128x512 squeezes_S1x1x7x128x512_S1x7x128x512 = cSlot (Ring.sl 6 k.val) := cSlot_of (off5_eq k) _ _
/-- The block of the second input that a trip sends out. -/
@[sl_canon] theorem cHome_next (k : Fin k0_t1_loop.trips) (hk : k.val < 22) (hh hs) : cM.slice (Rect.unit (s := S28x7x128x512) (k0_off6 k) S1x7x128x512.size hh) hs = cHome (Ring.bk 28 (k.val + 6)) := cHome_of (off6_eq k hk) _ _
/-- The semaphore of the first input that the first loop's last trips send for. -/
@[sl_canon] theorem pSem_first (k : Fin k0_t1_loop.trips) (hk : 22 ≤ k.val) (hh) : (cc0_scratch6.slice (Rect.unit (s := S6) (k0_off7 k) S1.size hh)).squeeze S_ squeezes_S1_S_ = pSem (Ring.sl 6 (k.val - 22)) := pSem_of (off7_eq k hk) _
/-- The slot of the first input that the first loop's last trips send for. -/
@[sl_canon] theorem pSlot_first (k : Fin k0_t1_loop.trips) (hk : 22 ≤ k.val) (hh hs) : (pB.slice (Rect.unit (s := S6x1x14x128x256) (k0_off8 k) S1x1x14x128x256.size hh) hs).squeeze S1x14x128x256 squeezes_S1x1x14x128x256_S1x14x128x256 = pSlot (Ring.sl 6 (k.val - 22)) := pSlot_of (off8_eq k hk) _ _
/-- The block of the first input that the first loop's last trips send for. -/
@[sl_canon] theorem pHome_first (k : Fin k0_t1_loop.trips) (hk : 22 ≤ k.val) (hh hs) : pM.slice (Rect.unit (s := S56x14x128x256) (k0_off9 k) S1x14x128x256.size hh) hs = pHome (Ring.bk 56 (k.val - 22)) := pHome_of (off9_eq k hk) _ _

/-! The slices of the second loop's trip `k`. -/

/-- The semaphore of the first input that a trip waits for. -/
@[sl_canon] theorem pSem_wait (k : Fin k0_t2_loop.trips) (hh) : (cc0_scratch6.slice (Rect.unit (s := S6) (k0_off10 k) S1.size hh)).squeeze S_ squeezes_S1_S_ = pSem (Ring.sl 6 k.val) := pSem_of (off10_eq k) _
/-- The slot of the first input that a trip waits for. -/
@[sl_canon] theorem pSlot_wait (k : Fin k0_t2_loop.trips) (hh hs) : (pB.slice (Rect.unit (s := S6x1x14x128x256) (k0_off11 k) S1x1x14x128x256.size hh) hs).squeeze S1x14x128x256 squeezes_S1x1x14x128x256_S1x14x128x256 = pSlot (Ring.sl 6 k.val) := pSlot_of (off11_eq k) _ _
/-- The semaphore of the output that a trip waits for. -/
@[sl_canon] theorem oSem_wait (k : Fin k0_t2_loop.trips) (hh) : (cc0_scratch7.slice (Rect.unit (s := S2) (k0_off12 k) S1.size hh)).squeeze S_ squeezes_S1_S_ = oSem (Ring.sl 2 k.val) := oSem_of (off12_eq k) _
/-- The block of the output that a trip waits for. -/
@[sl_canon] theorem oHome_wait (k : Fin k0_t2_loop.trips) (hk : 2 ≤ k.val) (hh hs) : oM.slice (Rect.unit (s := S56x14x256) (k0_off13 k) S1x14x256.size hh) hs = oHome (Ring.bk 56 (k.val - 2)) := oHome_of (off13_eq k hk) _ _
/-- The slot of the output that a trip waits for. -/
@[sl_canon] theorem oSlot_wait (k : Fin k0_t2_loop.trips) (hh hs) : (oB.slice (Rect.unit (s := S2x1x14x256) (k0_off14 k) S1x1x14x256.size hh) hs).squeeze S1x14x256 squeezes_S1x1x14x256_S1x14x256 = oSlot (Ring.sl 2 k.val) := oSlot_of (off14_eq k) _ _
/-- The semaphore of the output that a trip sends out. -/
@[sl_canon] theorem oSem_next (k : Fin k0_t2_loop.trips) (hh) : (cc0_scratch7.slice (Rect.unit (s := S2) (k0_off17 k) S1.size hh)).squeeze S_ squeezes_S1_S_ = oSem (Ring.sl 2 k.val) := oSem_of (off17_eq k) _
/-- The block of the output that a trip sends out. -/
@[sl_canon] theorem oHome_next (k : Fin k0_t2_loop.trips) (hh hs) : oM.slice (Rect.unit (s := S56x14x256) (k0_off18 k) S1x14x256.size hh) hs = oHome (Ring.bk 56 k.val) := oHome_of (off18_eq k) _ _
/-- The slot of the output that a trip sends out. -/
@[sl_canon] theorem oSlot_next (k : Fin k0_t2_loop.trips) (hh hs) : (oB.slice (Rect.unit (s := S2x1x14x256) (k0_off19 k) S1x1x14x256.size hh) hs).squeeze S1x14x256 squeezes_S1x1x14x256_S1x14x256 = oSlot (Ring.sl 2 k.val) := oSlot_of (off19_eq k) _ _
/-- The semaphore of the first input that a trip sends out. -/
@[sl_canon] theorem pSem_next (k : Fin k0_t2_loop.trips) (hh) : (cc0_scratch6.slice (Rect.unit (s := S6) (k0_off20 k) S1.size hh)).squeeze S_ squeezes_S1_S_ = pSem (Ring.sl 6 k.val) := pSem_of (off20_eq k) _
/-- The slot of the first input that a trip sends out. -/
@[sl_canon] theorem pSlot_next (k : Fin k0_t2_loop.trips) (hh hs) : (pB.slice (Rect.unit (s := S6x1x14x128x256) (k0_off21 k) S1x1x14x128x256.size hh) hs).squeeze S1x14x128x256 squeezes_S1x1x14x128x256_S1x14x128x256 = pSlot (Ring.sl 6 k.val) := pSlot_of (off21_eq k) _ _
/-- The block of the first input that a trip sends out. -/
@[sl_canon] theorem pHome_next (k : Fin k0_t2_loop.trips) (hk : k.val < 50) (hh hs) : pM.slice (Rect.unit (s := S56x14x128x256) (k0_off22 k) S1x14x128x256.size hh) hs = pHome (Ring.bk 56 (k.val + 6)) := pHome_of (off22_eq k hk) _ _

end Cert.Proof.Stream

end
-- ==== Proof.Trips.lean ====
/-
  One trip of each of the streaming kernel's two loops, at a symbolic trip, over the resources the trip itself uses.
-/
module

public import proofs.«01_k».proof.Proof.Names
public import Idealize.ShloMosaic.Lib.Pipeline.FrameSuffixV
public import Idealize.ShloMosaic.Lib.Pipeline.Value
public import Idealize.ShloMosaic.Lib.ValueIdxCore

@[expose] public section

set_option maxRecDepth 16384

noncomputable section

namespace Cert.Proof.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the launch's own beside the transfers' counters. -/
abbrev UU (nD : ℕ) (τ : Topo) : Type := UR sig nD τ × Counters
local notation "𝕄" => MT nD τ sig Unit (Elt F) ℕ (UU nD τ) ℕ

abbrev 𝒱₀ : Variants := Variants.none

section Pieces
variable (c : Dev nD)
variable (XC : Buf (Elt F) (cM.view.loc (c : Thread nD τ))) (XP : Buf (Elt F) (pM.view.loc (c : Thread nD τ)))

/-- A slot's semaphore at zero. -/
abbrev cCell (s : Fin 6) : sProp 𝕄 := semVal ((c : Thread nD τ), SemLoc.dma (cSem s).sem) 0
abbrev pCell (s : Fin 6) : sProp 𝕄 := semVal ((c : Thread nD τ), SemLoc.dma (pSem s).sem) 0
abbrev oCell (s : Fin 2) : sProp 𝕄 := semVal ((c : Thread nD τ), SemLoc.dma (oSem s).sem) 0

/-- A slot held at given contents. -/
abbrev cAt (s : Fin 6) (f : Buf (Elt F) ((cSlot s).view.loc (c : Thread nD τ))) : sProp 𝕄 :=
  (cSlot s).view.loc (c : Thread nD τ) ↦[(cSlot s).view.set]{fullShare} f
abbrev pAt (s : Fin 6) (f : Buf (Elt F) ((pSlot s).view.loc (c : Thread nD τ))) : sProp 𝕄 :=
  (pSlot s).view.loc (c : Thread nD τ) ↦[(pSlot s).view.set]{fullShare} f
abbrev oAt (s : Fin 2) (f : Buf (Elt F) ((oSlot s).view.loc (c : Thread nD τ))) : sProp 𝕄 :=
  (oSlot s).view.loc (c : Thread nD τ) ↦[(oSlot s).view.set]{fullShare} f

/-- A block of an input held at the input's contents. -/
abbrev cHomeP (b : Fin 28) : sProp 𝕄 := (cHome b).view.loc (c : Thread nD τ) ↦[(cHome b).view.set]{fullShare} XC
abbrev pHomeP (b : Fin 56) : sProp 𝕄 := (pHome b).view.loc (c : Thread nD τ) ↦[(pHome b).view.set]{fullShare} XP

/-- What a block's transfer leaves in a slot: the block, written whole. -/
abbrev cGot (s : Fin 6) (b : Fin 28) (f : Buf (Elt F) ((cSlot s).view.loc (c : Thread nD τ))) : Buf (Elt F) ((cSlot s).view.loc (c : Thread nD τ)) :=
  (cSlot s).view.writes (Elt F) f [⟨Rect.whole S1x7x128x512, ReadAs.same.apply ((cHome b).view.read (Elt F) XC)⟩]
abbrev pGot (s : Fin 6) (b : Fin 56) (f : Buf (Elt F) ((pSlot s).view.loc (c : Thread nD τ))) : Buf (Elt F) ((pSlot s).view.loc (c : Thread nD τ)) :=
  (pSlot s).view.writes (Elt F) f [⟨Rect.whole S1x14x128x256, ReadAs.same.apply ((pHome b).view.read (Elt F) XP)⟩]

abbrev cN : ℕ := 57344
abbrev pN : ℕ := 57344

/-- Slot `s` in flight with block `b`: the transfer will give back the slot holding the block, and the block. -/
abbrev cFly (s : Fin 6) (b : Fin 28) (f : Buf (Elt F) ((cSlot s).view.loc (c : Thread nD τ))) : sProp 𝕄 :=
  Transfers.Flight countersEmb (c : Thread nD τ) (SemLoc.dma (cSem s).sem) () cN iprop(cAt c s (cGot c XC s b f) ∗ cHomeP c XC b)
abbrev pFly (s : Fin 6) (b : Fin 56) (f : Buf (Elt F) ((pSlot s).view.loc (c : Thread nD τ))) : sProp 𝕄 :=
  Transfers.Flight countersEmb (c : Thread nD τ) (SemLoc.dma (pSem s).sem) () pN iprop(pAt c s (pGot c XP s b f) ∗ pHomeP c XP b)

/-- Slot `s` with nothing in flight, its semaphore at zero. -/
abbrev cFree (s : Fin 6) : sProp 𝕄 := iprop((∃ f, cAt (F := F) c s f) ∗ cCell c s)
abbrev pFree (s : Fin 6) : sProp 𝕄 := iprop((∃ f, pAt (F := F) c s f) ∗ pCell c s)
abbrev cBusy (s : Fin 6) (b : Fin 28) : sProp 𝕄 := iprop(∃ f, cFly c XC s b f)
abbrev pBusy (s : Fin 6) (b : Fin 56) : sProp 𝕄 := iprop(∃ f, pFly c XP s b f)

/-- The accumulator at given contents. -/
abbrev accP (f : Buf (Elt F) (aB.view.loc (c : Thread nD τ))) : sProp 𝕄 := aB.view.loc (c : Thread nD τ) ↦[aB.view.set]{fullShare} f
abbrev owesP : sProp 𝕄 := iprop(∃ W, owes (c : Thread nD τ) 0 W)

end Pieces

/-! ## What the trips' loads and stores amount to -/

section Values
variable (c : Dev nD)
variable (XC : Buf (Elt F) (cM.view.loc (c : Thread nD τ))) (XP : Buf (Elt F) (pM.view.loc (c : Thread nD τ)))

/-- A block of the second input has as many entries as its slot's load. -/
theorem casts_c : S1x7x128x512.ShapeCasts S1x1x7x128x512 := squeezes_S1x1x7x128x512_S1x7x128x512.numel_eq.symm
/-- A block of the first input has as many entries as its slot's load. -/
theorem casts_p : S1x14x128x256.ShapeCasts S1x1x14x128x256 := squeezes_S1x1x14x128x256_S1x14x128x256.numel_eq.symm
/-- A block of the output has as many entries as its slot's store. -/
theorem casts_o : S1x1x14x256.ShapeCasts S1x14x256 := squeezes_S1x1x14x256_S1x14x256.numel_eq

/-- Block `b` of an input, in the shape the trip that uses it loads it at. -/
def cBlk (b : Fin 28) : Vec F S1x1x7x128x512 .f32 := shapeCast S1x1x7x128x512 ((cHome b).view.read (Elt F) XC) casts_c
/-- Block `b` of the first input, in the shape the trip that uses it loads it at. -/
def pBlk (b : Fin 56) : Vec F S1x1x14x128x256 .f32 := shapeCast S1x1x14x128x256 ((pHome b).view.read (Elt F) XP) casts_p

/-- Loading a slot in which a block has landed reads the block. -/
theorem cLoad {off : Fin 5 → ℕ} (s : Fin 6) (b : Fin 28) (e : off = inOff s) (hh) (f) :
    cB.view.readAt (Elt F) (Rect.unit (s := S6x1x7x128x512) off S1x1x7x128x512.size hh).toLoadRect (cGot c XC s b f) = cBlk c XC b := by
  subst e
  have h := Memref.read_squeeze_slice cB (Rect.unit (s := S6x1x7x128x512) (inOff s) S1x1x7x128x512.size (cSlotOff_inb s)) (fun _ => rfl)
    squeezes_S1x1x7x128x512_S1x7x128x512 casts_c.symm (cGot c XC s b f)
  have h' : (cSlot s).view.read (Elt F) (cGot c XC s b f) = (cHome b).view.read (Elt F) XC := View.read_writes_whole _ _ _
  unfold cBlk
  rw [← h']
  exact ((congrArg (fun x => shapeCast S1x1x7x128x512 x casts_c) h).trans (shapeCast_shapeCast _ _ _)).symm
/-- Loading a slot in which a block of the first input has landed reads the block. -/
theorem pLoad {off : Fin 5 → ℕ} (s : Fin 6) (b : Fin 56) (e : off = inOff s) (hh) (f) :
    pB.view.readAt (Elt F) (Rect.unit (s := S6x1x14x128x256) off S1x1x14x128x256.size hh).toLoadRect (pGot c XP s b f) = pBlk c XP b := by
  subst e
  have h := Memref.read_squeeze_slice pB (Rect.unit (s := S6x1x14x128x256) (inOff s) S1x1x14x128x256.size (pSlotOff_inb s)) (fun _ => rfl)
    squeezes_S1x1x14x128x256_S1x14x128x256 casts_p.symm (pGot c XP s b f)
  have h' : (pSlot s).view.read (Elt F) (pGot c XP s b f) = (pHome b).view.read (Elt F) XP := View.read_writes_whole _ _ _
  unfold pBlk
  rw [← h']
  exact ((congrArg (fun x => shapeCast S1x1x14x128x256 x casts_p) h).trans (shapeCast_shapeCast _ _ _)).symm

/-- A slot sent out again over the block it held: the executor lists both writes, the older one under the newer. -/
theorem cFly_again (s : Fin 6) (b b' : Fin 28) (f : Buf (Elt F) ((cSlot s).view.loc (c : Thread nD τ))) :
    cFly c XC s b' (cGot c XC s b f)
      = Transfers.Flight countersEmb (c : Thread nD τ) (SemLoc.dma (cSem s).sem) () 57344
          iprop(cAt c s ((cSlot s).view.writes (Elt F) f [⟨Rect.whole S1x7x128x512, ReadAs.same.apply ((cHome b').view.read (Elt F) XC)⟩,
              ⟨Rect.whole S1x7x128x512, ReadAs.same.apply ((cHome b).view.read (Elt F) XC)⟩]) ∗ cHomeP c XC b') := by
  simp only [cFly, cGot, cN, View.writes]
/-- The same for the first input's slots. -/
theorem pFly_again (s : Fin 6) (b b' : Fin 56) (f : Buf (Elt F) ((pSlot s).view.loc (c : Thread nD τ))) :
    pFly c XP s b' (pGot c XP s b f)
      = Transfers.Flight countersEmb (c : Thread nD τ) (SemLoc.dma (pSem s).sem) () 57344
          iprop(pAt c s ((pSlot s).view.writes (Elt F) f [⟨Rect.whole S1x14x128x256, ReadAs.same.apply ((pHome b').view.read (Elt F) XP)⟩,
              ⟨Rect.whole S1x14x128x256, ReadAs.same.apply ((pHome b).view.read (Elt F) XP)⟩]) ∗ pHomeP c XP b') := by
  simp only [pFly, pGot, pN, View.writes]

/-- Two zero offsets, as a list and as a function. -/
theorem zeros2 : (![0, 0] : Fin 2 → ℕ) = fun _ => 0 := by funext a; fin_cases a <;> rfl

/-- Loading the accumulator reads it; storing it leaves what was stored. -/
theorem aLoad (f : Buf (Elt F) (aB.view.loc (c : Thread nD τ))) :
    aB.view.readAt (Elt F) (Rect.unit (s := S128x512) ![0, 0] S128x512.size inb_S128x512_S128x512_0_0).toLoadRect f = f :=
  Memref.readAt_unit_zero (Elt F) cc0_scratch3 zeros2 _ f
/-- A store to the whole accumulator leaves what was stored. -/
theorem aStore (f w : Buf (Elt F) (aB.view.loc (c : Thread nD τ))) :
    aB.view.writes (Elt F) f [⟨Rect.unit (s := S128x512) ![0, 0] S128x512.size inb_S128x512_S128x512_0_0, w⟩] = w :=
  (View.writes_singleton _ _ _ _).trans (Memref.write_access_unit_zero_univ (Elt F) cc0_scratch3 zeros2 inb_S128x512_S128x512_0_0 f w)
/-- A load of all the weights reads them. -/
theorem wLoad (f : Buf (Elt F) (wB.view.loc (c : Thread nD τ))) :
    wB.view.readAt (Elt F) (Rect.unit (s := S128x256) ![0, 0] S128x256.size inb_S128x256_S128x256_0_0).toLoadRect f = f :=
  Memref.readAt_unit_zero (Elt F) cc0_scratch4 zeros2 _ f
/-- A store to all the weights leaves what was stored. -/
theorem wStore (f w : Buf (Elt F) (wB.view.loc (c : Thread nD τ))) :
    wB.view.writes (Elt F) f [⟨Rect.unit (s := S128x256) ![0, 0] S128x256.size inb_S128x256_S128x256_0_0, w⟩] = w :=
  (View.writes_singleton _ _ _ _).trans (Memref.write_access_unit_zero_univ (Elt F) cc0_scratch4 zeros2 inb_S128x256_S128x256_0_0 f w)

end Values

/-! ## The first loop's trip -/

section Trip1
variable (c : Dev nD)
variable (XC : Buf (Elt F) (cM.view.loc (c : Thread nD τ))) (XP : Buf (Elt F) (pM.view.loc (c : Thread nD τ)))

/-- The first loop's trip `k`. -/
abbrev trip1 (k : Fin k0_t1_loop.trips) : Prog (TpuEff nD τ sig (Elt F) Λ₀ .tc) Unit :=
  k0_t1_body (F := F) cM (Memref.isWhole_whole _) pM (Memref.isWhole_whole _) oM (Memref.isWhole_whole _) cB (Memref.isWhole_whole _) pB (Memref.isWhole_whole _)
    oB (Memref.isWhole_whole _) aB (Memref.isWhole_whole _) wB (Memref.isWhole_whole _) cc0_scratch5 cc0_scratch6 cc0_scratch7 k ()

/-- The accumulator after a trip that loads block `b`. -/
abbrev accNext (b : Fin 28) (f : Buf (Elt F) (aB.view.loc (c : Thread nD τ))) : Buf (Elt F) (aB.view.loc (c : Thread nD τ)) := k0_pay4 (cBlk c XC b) f

/-- A trip before 22: block `k` has its slot, is added, and the slot goes back out for block `k + 6`. -/
theorem trip1_early (k : Fin k0_t1_loop.trips) (hk : k.val < 22) (fo : Buf (Elt F) (aB.view.loc (c : Thread nD τ))) :
    iprop(accP c fo ∗ owesP c ∗ cBusy c XC (Ring.sl 6 k.val) (Ring.bk 28 k.val) ∗ cHomeP c XC (Ring.bk 28 (k.val + 6)))
      ⊢ wp frame (wpE (defs₀ (F := F)) 𝒱₀ (c : Thread nD τ) none) Set.univ (trip1 k)
        (fun _ => iprop(accP c (accNext c XC (Ring.bk 28 k.val) fo) ∗ owesP c ∗ cBusy c XC (Ring.sl 6 k.val) (Ring.bk 28 (k.val + 6)) ∗ cHomeP c XC (Ring.bk 28 k.val))) := by
  have h1 : k0_cond1 k = 1#1 := (cond1_iff k).2 hk
  have h2 : ¬ k0_cond2 k = 1#1 := fun h => by have := (cond2_iff k).1 h; omega
  iintro ⟨HA, ⟨%W, HW⟩, ⟨%f, HF⟩, Hh⟩
  dsimp only [trip1]
  sl_unfold [k0_t1_body]
  sl_exec
  sl_step
  unfold trip1_early.sl.v62 trip1_early.sl.dma4
  rw [aStore, aLoad, cLoad c XC (Ring.sl 6 k.val) (Ring.bk 28 k.val) (off3_eq k)]
  isplitl [HA]; · iexact HA
  isplitl [HW]; · iexists _; iexact HW
  isplitl [HF]
  · iexists (cGot c XC (Ring.sl 6 k.val) (Ring.bk 28 k.val) (cSlot (Ring.sl 6 k.val)).view.junk)
    irw [cFly_again]
    iexact HF
  iexact HF_src

/-- A trip from 22 on: block `k` is added, its slot stays free, and the second input's block `k - 22` goes out. -/
theorem trip1_late (k : Fin k0_t1_loop.trips) (hk : 22 ≤ k.val) (fo : Buf (Elt F) (aB.view.loc (c : Thread nD τ))) :
    iprop(accP c fo ∗ owesP c ∗ cBusy c XC (Ring.sl 6 k.val) (Ring.bk 28 k.val) ∗ pFree (F := F) c (Ring.sl 6 (k.val - 22)) ∗ pHomeP c XP (Ring.bk 56 (k.val - 22)))
      ⊢ wp frame (wpE (defs₀ (F := F)) 𝒱₀ (c : Thread nD τ) none) Set.univ (trip1 k)
        (fun _ => iprop(accP c (accNext c XC (Ring.bk 28 k.val) fo) ∗ owesP c ∗ cFree (F := F) c (Ring.sl 6 k.val) ∗ cHomeP c XC (Ring.bk 28 k.val)
          ∗ pBusy c XP (Ring.sl 6 (k.val - 22)) (Ring.bk 56 (k.val - 22)))) := by
  have h1 : ¬ k0_cond1 k = 1#1 := fun h => by have := (cond1_iff k).1 h; omega
  have h2 : k0_cond2 k = 1#1 := (cond2_iff k).2 hk
  iintro ⟨HA, ⟨%W, HW⟩, ⟨%f, HF⟩, ⟨⟨%g, HP⟩, HC⟩, Hh⟩
  dsimp only [trip1]
  sl_unfold [k0_t1_body]
  sl_exec
  sl_step
  unfold trip1_late.sl.v62 trip1_late.sl.dma4
  rw [aStore, aLoad, cLoad c XC (Ring.sl 6 k.val) (Ring.bk 28 k.val) (off3_eq k)]
  isplitl [HA]; · iexact HA
  isplitl [HW]; · iexists _; iexact HW
  isplitl [HF HF_dst]
  · isplitl [HF_dst]; · iexists _; iexact HF_dst
    iexact HF
  isplitl [HF_src]; · iexact HF_src
  iexists g
  iexact HC

end Trip1

/-! ## The second loop's trip -/

section Trip2
variable (c : Dev nD)
variable (XP : Buf (Elt F) (pM.view.loc (c : Thread nD τ))) (wv : Buf (Elt F) (wB.view.loc (c : Thread nD τ)))

abbrev trip2 (k : Fin k0_t2_loop.trips) : Prog (TpuEff nD τ sig (Elt F) Λ₀ .tc) Unit :=
  k0_t2_body (F := F) cM (Memref.isWhole_whole _) pM (Memref.isWhole_whole _) oM (Memref.isWhole_whole _) cB (Memref.isWhole_whole _) pB (Memref.isWhole_whole _)
    oB (Memref.isWhole_whole _) aB (Memref.isWhole_whole _) wB (Memref.isWhole_whole _) cc0_scratch5 cc0_scratch6 cc0_scratch7 k ()

abbrev wP (f : Buf (Elt F) (wB.view.loc (c : Thread nD τ))) : sProp 𝕄 := wB.view.loc (c : Thread nD τ) ↦[wB.view.set]{fullShare} f
abbrev oHomeP (b : Fin 56) (f : Buf (Elt F) (oM.view.loc (c : Thread nD τ))) : sProp 𝕄 := (oHome b).view.loc (c : Thread nD τ) ↦[(oHome b).view.set]{fullShare} f
abbrev oFree (s : Fin 2) : sProp 𝕄 := iprop((∃ f, oAt (F := F) c s f) ∗ oCell c s)

/-- Block `b` of the output, as the trip that computes it stores it; -/
def oBlk (b : Fin 56) : Vec F S1x14x256 .f32 := shapeCast S1x14x256 (k0_pay2 (pBlk c XP b) wv) casts_o
/-- the whole output, block by block. -/
def oAll : Buf (Elt F) (oM.view.loc (c : Thread nD τ)) :=
  fun i : S56x14x256.Idx => oBlk c XP wv (i 0) (ValueIdx.ix3 0 (i 1) (i 2))

/-- The output's block `b` reads as block `b`. -/
theorem oAll_read (b : Fin 56) : (oHome b).view.read (Elt F) (oAll c XP wv) = oBlk c XP wv b := by
  funext y
  have e : (oHome b).view.emb y = ValueIdx.ix3 b (y 1) (y 2) := by
    funext a
    match a with
    | ⟨0, _⟩ => exact Fin.ext (by show b.val + 1 * (y 0).val = b.val; have : (y 0).val < 1 := (y 0).isLt; omega)
    | ⟨1, _⟩ => exact Fin.ext (by show 0 + 1 * (y 1).val = (y 1).val; omega)
    | ⟨2, _⟩ => exact Fin.ext (by show 0 + 1 * (y 2).val = (y 2).val; omega)
  have e' : y = ValueIdx.ix3 0 (y 1) (y 2) := by
    funext a
    match a with
    | ⟨0, _⟩ => exact Fin.ext (by show (y 0).val = 0; have : (y 0).val < 1 := (y 0).isLt; omega)
    | ⟨1, _⟩ => rfl
    | ⟨2, _⟩ => rfl
  show oAll c XP wv ((oHome b).view.emb y) = _
  rw [e]
  exact congrArg (oBlk c XP wv b) e'.symm

/-- Slot `s` in flight to block `b` of the output: the transfer will give back the block holding what it is to hold, and the slot. -/
abbrev oFly (s : Fin 2) (b : Fin 56) (h : Buf (Elt F) ((oSlot s).view.loc (c : Thread nD τ))) : sProp 𝕄 :=
  Transfers.Flight countersEmb (c : Thread nD τ) (SemLoc.dma (oSem s).sem) () 448 iprop(oHomeP c b (oAll c XP wv) ∗ oAt c s h)
abbrev oBusy (s : Fin 2) (b : Fin 56) : sProp 𝕄 := iprop(∃ h, oFly c XP wv s b h)

/-- A slot's contents after a store of the whole slot through its buffer. -/
abbrev oStored {off : Fin 4 → ℕ} (s : Fin 2) (hh : ∀ a, off a + S1x1x14x256.size a ≤ S2x1x14x256.size a) (g : Buf (Elt F) ((oSlot s).view.loc (c : Thread nD τ)))
    (w : Vec F S1x1x14x256 .f32) : Buf (Elt F) ((oSlot s).view.loc (c : Thread nD τ)) :=
  View.write (Elt F) (oB.access (Rect.unit (s := S2x1x14x256) off S1x1x14x256.size hh)) g w Finset.univ

/-- What the slot then reads as: the stored vector without its leading axis. -/
theorem oStored_read {off : Fin 4 → ℕ} (s : Fin 2) (e : off = outOff s) (hh : ∀ a, off a + S1x1x14x256.size a ≤ S2x1x14x256.size a) (g) (w : Vec F S1x1x14x256 .f32) :
    (oSlot s).view.read (Elt F) (oStored c s hh g w) = shapeCast S1x14x256 w casts_o := by
  subst e
  have h := Memref.read_squeeze_slice oB (Rect.unit (s := S2x1x14x256) (outOff s) S1x1x14x256.size (oSlotOff_inb s)) (fun _ => rfl)
    squeezes_S1x1x14x256_S1x14x256 casts_o (oStored c s hh g w)
  refine Eq.trans h (congrArg (fun x => shapeCast S1x14x256 x casts_o) ?_)
  exact View.read_write_univ _ _

/-- A block that a transfer has written with its own payload holds what it is to hold. -/
theorem oHome_done (b : Fin 56) (O : Buf (Elt F) (oM.view.loc (c : Thread nD τ))) :
    oHomeP (F := F) c b ((oHome b).view.writes (Elt F) O [⟨Rect.whole S1x14x256, oBlk c XP wv b⟩]) = oHomeP c b (oAll c XP wv) := by
  refine (pointsTo_rep (c : Thread nD τ) (oHome b) _ _).trans (Eq.trans ?_ (pointsTo_rep (c : Thread nD τ) (oHome b) _ _).symm)
  exact congrArg (fun x : Vec F S1x14x256 .f32 => oHomeP (F := F) c b ((oHome b).view.rep x))
    ((View.read_writes_whole (Val := Elt F) (oHome b).view O (oBlk c XP wv b)).trans (oAll_read c XP wv b).symm)

/-- The flight the trip starts, as the executor lists it. -/
theorem oFly_start {off : Fin 4 → ℕ} (s : Fin 2) (e : off = outOff s) (hh : ∀ a, off a + S1x1x14x256.size a ≤ S2x1x14x256.size a) (b : Fin 56) (g) (O : Buf (Elt F) (oM.view.loc (c : Thread nD τ))) :
    oFly c XP wv s b (oStored c s hh g (k0_pay2 (pBlk c XP b) wv))
      = Transfers.Flight countersEmb (c : Thread nD τ) (SemLoc.dma (oSem s).sem) () 448
          iprop(oHomeP c b ((oHome b).view.writes (Elt F) O [⟨Rect.whole S1x14x256,
              ReadAs.same.apply ((oSlot s).view.read (Elt F) (oStored c s hh g (k0_pay2 (pBlk c XP b) wv)))⟩])
            ∗ oAt c s (oStored c s hh g (k0_pay2 (pBlk c XP b) wv))) := by
  have e2 := oStored_read c s e hh g (k0_pay2 (pBlk c XP b) wv)
  have h : oHomeP (F := F) c b ((oHome b).view.writes (Elt F) O [⟨Rect.whole S1x14x256,
      ReadAs.same.apply ((oSlot s).view.read (Elt F) (oStored c s hh g (k0_pay2 (pBlk c XP b) wv)))⟩]) = oHomeP c b (oAll c XP wv) :=
    (congrArg (fun x : Vec F S1x14x256 .f32 => oHomeP (F := F) c b ((oHome b).view.writes (Elt F) O [⟨Rect.whole S1x14x256, x⟩])) e2).trans (oHome_done c XP wv b O)
  exact congrArg (fun A : sProp 𝕄 => Transfers.Flight countersEmb (c : Thread nD τ) (SemLoc.dma (oSem s).sem) () 448
    iprop(A ∗ oAt c s (oStored c s hh g (k0_pay2 (pBlk c XP b) wv)))) h.symm

/-- The first two trips: no output block to wait for. -/
theorem trip2_first (k : Fin k0_t2_loop.trips) (hk : k.val < 2) (O : Buf (Elt F) (oM.view.loc (c : Thread nD τ))) :
    iprop(owesP c ∗ wP c wv ∗ pBusy c XP (Ring.sl 6 k.val) (Ring.bk 56 k.val) ∗ pHomeP c XP (Ring.bk 56 (k.val + 6)) ∗ oFree (F := F) c (Ring.sl 2 k.val) ∗ oHomeP c (Ring.bk 56 k.val) O)
      ⊢ wp frame (wpE (defs₀ (F := F)) 𝒱₀ (c : Thread nD τ) none) Set.univ (trip2 k)
        (fun _ => iprop(owesP c ∗ wP c wv ∗ pBusy c XP (Ring.sl 6 k.val) (Ring.bk 56 (k.val + 6)) ∗ pHomeP c XP (Ring.bk 56 k.val) ∗ oBusy c XP wv (Ring.sl 2 k.val) (Ring.bk 56 k.val))) := by
  have h3 : ¬ k0_cond3 k = 1#1 := fun h => by have := (cond3_iff k).1 h; omega
  have h4 : k0_cond4 k = 1#1 := (cond4_iff k).2 (by omega)
  have h50 : k.val < 50 := by omega
  iintro ⟨⟨%W, HW⟩, Hw, ⟨%f, HF⟩, Hh, ⟨⟨%g, HO⟩, HC⟩, HG⟩
  dsimp only [trip2]
  sl_unfold [k0_t2_body]
  sl_exec
  sl_step
  unfold trip2_first.sl.dma4 trip2_first.sl.HO_w1 trip2_first.sl.v66 trip2_first.sl.dma4_1
  rw [wLoad, pLoad c XP (Ring.sl 6 k.val) (Ring.bk 56 k.val) (off15_eq k)]
  isplitl [HW]; · iexists _; iexact HW
  isplitl [Hw]; · iexact Hw
  isplitl [HF]
  · iexists (pGot c XP (Ring.sl 6 k.val) (Ring.bk 56 k.val) (pSlot (Ring.sl 6 k.val)).view.junk)
    irw [pFly_again]
    iexact HF
  isplitl [HF_src]; · iexact HF_src
  iexists (oStored c (Ring.sl 2 k.val) (k0_off16_inb k) g (k0_pay2 (pBlk c XP (Ring.bk 56 k.val)) wv))
  irw [oFly_start c XP wv (Ring.sl 2 k.val) (off16_eq k) (k0_off16_inb k) (Ring.bk 56 k.val) g O]
  iexact HC

/-- Trips 2 to 49: the output block of two trips ago comes home first. -/
theorem trip2_mid (k : Fin k0_t2_loop.trips) (hk : 2 ≤ k.val) (h50 : k.val < 50) (O : Buf (Elt F) (oM.view.loc (c : Thread nD τ))) :
    iprop(owesP c ∗ wP c wv ∗ pBusy c XP (Ring.sl 6 k.val) (Ring.bk 56 k.val) ∗ pHomeP c XP (Ring.bk 56 (k.val + 6)) ∗ oBusy c XP wv (Ring.sl 2 k.val) (Ring.bk 56 (k.val - 2)) ∗ oHomeP c (Ring.bk 56 k.val) O)
      ⊢ wp frame (wpE (defs₀ (F := F)) 𝒱₀ (c : Thread nD τ) none) Set.univ (trip2 k)
        (fun _ => iprop(owesP c ∗ wP c wv ∗ pBusy c XP (Ring.sl 6 k.val) (Ring.bk 56 (k.val + 6)) ∗ pHomeP c XP (Ring.bk 56 k.val) ∗ oBusy c XP wv (Ring.sl 2 k.val) (Ring.bk 56 k.val)
          ∗ oHomeP c (Ring.bk 56 (k.val - 2)) (oAll c XP wv))) := by
  have h3 : k0_cond3 k = 1#1 := (cond3_iff k).2 hk
  have h4 : k0_cond4 k = 1#1 := (cond4_iff k).2 (by omega)
  iintro ⟨⟨%W, HW⟩, Hw, ⟨%f, HF⟩, Hh, ⟨%g, HC⟩, HG⟩
  dsimp only [trip2]
  sl_unfold [k0_t2_body]
  sl_exec
  sl_step
  unfold trip2_mid.sl.dma4 trip2_mid.sl.HC_src_w1 trip2_mid.sl.v66 trip2_mid.sl.dma4_1
  rw [wLoad, pLoad c XP (Ring.sl 6 k.val) (Ring.bk 56 k.val) (off15_eq k)]
  isplitl [HW]; · iexists _; iexact HW
  isplitl [Hw]; · iexact Hw
  isplitl [HF]
  · iexists (pGot c XP (Ring.sl 6 k.val) (Ring.bk 56 k.val) (pSlot (Ring.sl 6 k.val)).view.junk)
    irw [pFly_again]
    iexact HF
  isplitl [HF_src]; · iexact HF_src
  isplitl [HC]
  · iexists (oStored c (Ring.sl 2 k.val) (k0_off16_inb k) g (k0_pay2 (pBlk c XP (Ring.bk 56 k.val)) wv))
    irw [oFly_start c XP wv (Ring.sl 2 k.val) (off16_eq k) (k0_off16_inb k) (Ring.bk 56 k.val) g O]
    iexact HC
  iexact HC_dst

/-- Trips 50 on: nothing more to fetch. -/
theorem trip2_late (k : Fin k0_t2_loop.trips) (hk : 50 ≤ k.val) (O : Buf (Elt F) (oM.view.loc (c : Thread nD τ))) :
    iprop(owesP c ∗ wP c wv ∗ pBusy c XP (Ring.sl 6 k.val) (Ring.bk 56 k.val) ∗ oBusy c XP wv (Ring.sl 2 k.val) (Ring.bk 56 (k.val - 2)) ∗ oHomeP c (Ring.bk 56 k.val) O)
      ⊢ wp frame (wpE (defs₀ (F := F)) 𝒱₀ (c : Thread nD τ) none) Set.univ (trip2 k)
        (fun _ => iprop(owesP c ∗ wP c wv ∗ pFree (F := F) c (Ring.sl 6 k.val) ∗ pHomeP c XP (Ring.bk 56 k.val) ∗ oBusy c XP wv (Ring.sl 2 k.val) (Ring.bk 56 k.val)
          ∗ oHomeP c (Ring.bk 56 (k.val - 2)) (oAll c XP wv))) := by
  have h2 : 2 ≤ k.val := by omega
  have h3 : k0_cond3 k = 1#1 := (cond3_iff k).2 h2
  have h4 : ¬ k0_cond4 k = 1#1 := fun h => by have := (cond4_iff k).1 h; omega
  iintro ⟨⟨%W, HW⟩, Hw, ⟨%f, HF⟩, ⟨%g, HC⟩, HG⟩
  dsimp only [trip2]
  sl_unfold [k0_t2_body]
  sl_exec
  sl_step
  unfold trip2_late.sl.dma4 trip2_late.sl.HC_src_w1 trip2_late.sl.v66
  rw [wLoad, pLoad c XP (Ring.sl 6 k.val) (Ring.bk 56 k.val) (off15_eq k)]
  isplitl [HW]; · iexists _; iexact HW
  isplitl [Hw]; · iexact Hw
  isplitl [HF HF_dst]
  · isplitl [HF_dst]; · iexists _; iexact HF_dst
    iexact HF
  isplitl [HF_src]; · iexact HF_src
  isplitl [HC]
  · iexists (oStored c (Ring.sl 2 k.val) (k0_off16_inb k) g (k0_pay2 (pBlk c XP (Ring.bk 56 k.val)) wv))
    irw [oFly_start c XP wv (Ring.sl 2 k.val) (off16_eq k) (k0_off16_inb k) (Ring.bk 56 k.val) g O]
    iexact HC
  iexact HC_dst

end Trip2

end Cert.Proof.Stream

end
-- ==== Proof.Loops.lean ====
/-
  The invariants of the streaming kernel's two loops. Before a trip, the slots' states are indexed by the numbers of the blocks they
  are for: slot `p % 6` is either waiting for block `p` or, once there is no block `p`, free.
-/
module

public import proofs.«01_k».proof.Proof.Trips
public import Mathlib.Order.Interval.Finset.Nat

@[expose] public section

set_option maxRecDepth 16384

noncomputable section

namespace Cert.Proof.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Runs of consecutive numbers -/

/-- Equal propositions entail one another. -/
theorem turn {M : Type _} [URA M] {P Q : sProp M} (e : P = Q) : P ⊢ Q := by rw [e]

section Runs

variable {M : Type _} [URA M] (Φ : ℕ → sProp M)

/-- A run's first is apart from the rest; -/
theorem run_first {lo hi : ℕ} (h : lo < hi) : bigSep (Finset.Ico lo hi) Φ = iprop(Φ lo ∗ bigSep (Finset.Ico (lo + 1) hi) Φ) := by
  have e : Finset.Ico lo hi = insert lo (Finset.Ico (lo + 1) hi) := by ext x; simp only [Finset.mem_Ico, Finset.mem_insert]; omega
  rw [e, bigSep_insert (by simp only [Finset.mem_Ico]; omega)]; rfl
/-- so is its last. -/
theorem run_last {lo hi : ℕ} (h : lo ≤ hi) : bigSep (Finset.Ico lo (hi + 1)) Φ = iprop(Φ hi ∗ bigSep (Finset.Ico lo hi) Φ) := by
  have e : Finset.Ico lo (hi + 1) = insert hi (Finset.Ico lo hi) := by ext x; simp only [Finset.mem_Ico, Finset.mem_insert]; omega
  rw [e, bigSep_insert (by simp only [Finset.mem_Ico]; omega)]; rfl

end Runs

/-! ## The first loop -/

section Loop1
variable (c : Dev nD)
variable (XC : Buf (Elt F) (cM.view.loc (c : Thread nD τ))) (XP : Buf (Elt F) (pM.view.loc (c : Thread nD τ)))

/-- The slot that is to hold block `p` of the first input, before trip `p`. -/
def cRole (p : ℕ) : sProp 𝕄 := if p < 28 then cBusy c XC (Ring.sl 6 p) (Ring.bk 28 p) else cFree (F := F) c (Ring.sl 6 p)
/-- Of the second input's 28 blocks, block `p` is on its way into its slot. -/
theorem cRole_busy {p : ℕ} (h : p < 28) : cRole c XC p = cBusy c XC (Ring.sl 6 p) (Ring.bk 28 p) := if_pos h
/-- Past the last block, the slot is free. -/
theorem cRole_free {p : ℕ} (h : 28 ≤ p) : cRole c XC p = cFree (F := F) c (Ring.sl 6 p) := if_neg (by omega)
/-- A slot just emptied takes the block six further on, if there is one; -/
theorem cRole_next_busy {k : ℕ} (h : k + 6 < 28) : cRole c XC (k + 6) = cBusy c XC (Ring.sl 6 k) (Ring.bk 28 (k + 6)) := by
  rw [cRole_busy c XC h, Ring.sl_add]
/-- otherwise it stays free. -/
theorem cRole_next_free {k : ℕ} (h : 28 ≤ k + 6) : cRole c XC (k + 6) = cFree (F := F) c (Ring.sl 6 k) := by
  rw [cRole_free c XC h, Ring.sl_add]

/-- Blocks and slots by number. -/
abbrev cHomeN (p : ℕ) : sProp 𝕄 := cHomeP c XC (Ring.bk 28 p)
abbrev pHomeN (p : ℕ) : sProp 𝕄 := pHomeP c XP (Ring.bk 56 p)
abbrev pFreeN (p : ℕ) : sProp 𝕄 := pFree (F := F) c (Ring.sl 6 p)
abbrev pBusyN (p : ℕ) : sProp 𝕄 := pBusy c XP (Ring.sl 6 p) (Ring.bk 56 p)

/-- The accumulator before trip `k`, from what it holds at the loop's start. -/
def accAt (f : Buf (Elt F) (aB.view.loc (c : Thread nD τ))) : ℕ → Buf (Elt F) (aB.view.loc (c : Thread nD τ))
  | 0 => f
  | k + 1 => accNext c XC (Ring.bk 28 k) (accAt f k)

/-- Before trip `k` of the first loop: the accumulator over the blocks before `k`; those blocks home, and the ones not yet sent for; the
    six slots; the second input's first `k - 22` blocks on their way and the others home. -/
def inv1 (f : Buf (Elt F) (aB.view.loc (c : Thread nD τ))) (k : ℕ) : sProp 𝕄 :=
  iprop(accP c (accAt c XC f k) ∗ owesP c
    ∗ bigSep (Finset.Ico k (k + 6)) (cRole c XC) ∗ bigSep (Finset.Ico 0 k) (cHomeN c XC) ∗ bigSep (Finset.Ico (k + 6) 28) (cHomeN c XC)
    ∗ bigSep (Finset.Ico 0 (k - 22)) (pBusyN c XP) ∗ bigSep (Finset.Ico (k - 22) 6) (pFreeN (F := F) c) ∗ bigSep (Finset.Ico (k - 22) 56) (pHomeN c XP))

/-- A trip of the first loop takes the state before it to the state after it. -/
theorem inv1_step (f : Buf (Elt F) (aB.view.loc (c : Thread nD τ))) (k : Fin k0_t1_loop.trips) :
    inv1 c XC XP f k.val ⊢ wp frame (wpE (defs₀ (F := F)) 𝒱₀ (c : Thread nD τ) none) Set.univ (trip1 k) (fun _ => inv1 c XC XP f (k.val + 1)) := by
  have hk28 : k.val < 28 := k.isLt
  unfold inv1
  rw [run_first (cRole c XC) (show k.val < k.val + 6 by omega), show k.val + 1 + 6 = k.val + 6 + 1 by omega,
    run_last (cRole c XC) (show k.val + 1 ≤ k.val + 6 by omega), run_last (cHomeN c XC) (Nat.zero_le k.val), cRole_busy c XC hk28]
  by_cases hk : k.val < 22
  · rw [cRole_next_busy c XC (show k.val + 6 < 28 by omega), run_first (cHomeN c XC) (show k.val + 6 < 28 by omega),
      show k.val + 1 - 22 = k.val - 22 by omega]
    iintro ⟨HA, HW, ⟨HF, Hslots⟩, Hback, ⟨Hh, Hhomes⟩, HP1, HP2, HP3⟩
    iapply (wp_wand_r Idealize.ShloMosaic.frame (wpE (defs₀ (F := F)) 𝒱₀ (c : Thread nD τ) none) Set.univ)
    isplitl [HA HW HF Hh]
    · iapply (trip1_early c XC k hk _)
      iframe
    · iintro %_ ⟨HA, HW, HF, Hh⟩
      iframe
      iexact HA
  · rw [cRole_next_free c XC (show 28 ≤ k.val + 6 by omega), show k.val + 1 - 22 = k.val - 22 + 1 by omega,
      run_last (pBusyN c XP) (Nat.zero_le (k.val - 22)), run_first (pFreeN c) (show k.val - 22 < 6 by omega), run_first (pHomeN c XP) (show k.val - 22 < 56 by omega)]
    have e : Finset.Ico (k.val + 6) 28 = Finset.Ico (k.val + 6 + 1) 28 := by ext x; simp only [Finset.mem_Ico]; omega
    rw [e]
    iintro ⟨HA, HW, ⟨HF, Hslots⟩, Hback, Hhomes, HP1, ⟨HPf, HP2⟩, HPh, HP3⟩
    iapply (wp_wand_r Idealize.ShloMosaic.frame (wpE (defs₀ (F := F)) 𝒱₀ (c : Thread nD τ) none) Set.univ)
    isplitl [HA HW HF HPf HPh]
    · iapply (trip1_late c XC XP k (by omega) _)
      iframe
    · iintro %_ ⟨HA, HW, HF, Hh, HPf⟩
      iframe
      iexact HA

end Loop1

/-! ## The second loop -/

section Loop2
variable (c : Dev nD)
variable (XP : Buf (Elt F) (pM.view.loc (c : Thread nD τ))) (wv : Buf (Elt F) (wB.view.loc (c : Thread nD τ))) (O : Buf (Elt F) (oM.view.loc (c : Thread nD τ)))

/-- The slot that is to hold block `p` of the second input, before trip `p`. -/
def pRole (p : ℕ) : sProp 𝕄 := if p < 56 then pBusy c XP (Ring.sl 6 p) (Ring.bk 56 p) else pFree (F := F) c (Ring.sl 6 p)
/-- Of the first input's 56 blocks, block `p` is on its way into its slot. -/
theorem pRole_busy {p : ℕ} (h : p < 56) : pRole c XP p = pBusy c XP (Ring.sl 6 p) (Ring.bk 56 p) := if_pos h
/-- Past the last block, the slot is free. -/
theorem pRole_free {p : ℕ} (h : 56 ≤ p) : pRole c XP p = pFree (F := F) c (Ring.sl 6 p) := if_neg (by omega)
/-- A slot just emptied takes the block six further on, if there is one; -/
theorem pRole_next_busy {k : ℕ} (h : k + 6 < 56) : pRole c XP (k + 6) = pBusy c XP (Ring.sl 6 k) (Ring.bk 56 (k + 6)) := by
  rw [pRole_busy c XP h, Ring.sl_add]
/-- otherwise it stays free. -/
theorem pRole_next_free {k : ℕ} (h : 56 ≤ k + 6) : pRole c XP (k + 6) = pFree (F := F) c (Ring.sl 6 k) := by
  rw [pRole_free c XP h, Ring.sl_add]

/-- The slot that is to take block `p` of the output, before trip `p`: block `p - 2` still leaves by it. -/
def oRole (p : ℕ) : sProp 𝕄 := if p < 2 then oFree (F := F) c (Ring.sl 2 p) else oBusy c XP wv (Ring.sl 2 p) (Ring.bk 56 (p - 2))
/-- The first two trips find the output's slots free; -/
theorem oRole_free {p : ℕ} (h : p < 2) : oRole c XP wv p = oFree (F := F) c (Ring.sl 2 p) := if_pos h
/-- a later one finds its slot sending the block of two trips before. -/
theorem oRole_busy {p : ℕ} (h : 2 ≤ p) : oRole c XP wv p = oBusy c XP wv (Ring.sl 2 p) (Ring.bk 56 (p - 2)) := if_neg (by omega)
/-- After a trip its slot is sending the block it computed. -/
theorem oRole_next (k : ℕ) : oRole c XP wv (k + 2) = oBusy c XP wv (Ring.sl 2 k) (Ring.bk 56 k) := by
  rw [oRole_busy c XP wv (show 2 ≤ k + 2 by omega), Ring.sl_add, Nat.add_sub_cancel]

abbrev oDoneN (p : ℕ) : sProp 𝕄 := oHomeP c (Ring.bk 56 p) (oAll c XP wv)
abbrev oRawN (p : ℕ) : sProp 𝕄 := oHomeP c (Ring.bk 56 p) O

/-- Before trip `k` of the second loop: the weights; the six input slots, the input's blocks used and those not yet sent for; the two
    output slots, the output's blocks written before `k - 2` and those from `k` on untouched. -/
def inv2 (k : ℕ) : sProp 𝕄 :=
  iprop(owesP c ∗ wP c wv
    ∗ bigSep (Finset.Ico k (k + 6)) (pRole c XP) ∗ bigSep (Finset.Ico 0 k) (pHomeN c XP) ∗ bigSep (Finset.Ico (k + 6) 56) (pHomeN c XP)
    ∗ bigSep (Finset.Ico k (k + 2)) (oRole c XP wv) ∗ bigSep (Finset.Ico 0 (k - 2)) (oDoneN c XP wv) ∗ bigSep (Finset.Ico k 56) (oRawN c O))

/-- A trip of the second loop takes the state before it to the state after it. -/
theorem inv2_step (k : Fin k0_t2_loop.trips) :
    inv2 c XP wv O k.val ⊢ wp frame (wpE (defs₀ (F := F)) 𝒱₀ (c : Thread nD τ) none) Set.univ (trip2 k) (fun _ => inv2 c XP wv O (k.val + 1)) := by
  have hk56 : k.val < 56 := k.isLt
  unfold inv2
  rw [run_first (pRole c XP) (show k.val < k.val + 6 by omega), show k.val + 1 + 6 = k.val + 6 + 1 by omega,
    run_last (pRole c XP) (show k.val + 1 ≤ k.val + 6 by omega), run_last (pHomeN c XP) (Nat.zero_le k.val), pRole_busy c XP hk56,
    run_first (oRole c XP wv) (show k.val < k.val + 2 by omega), show k.val + 1 + 2 = k.val + 2 + 1 by omega,
    run_last (oRole c XP wv) (show k.val + 1 ≤ k.val + 2 by omega), oRole_next, run_first (oRawN c O) hk56]
  by_cases h2 : k.val < 2
  · rw [pRole_next_busy c XP (show k.val + 6 < 56 by omega), run_first (pHomeN c XP) (show k.val + 6 < 56 by omega), oRole_free c XP wv h2,
      show k.val + 1 - 2 = k.val - 2 by omega]
    iintro ⟨HW, Hw, ⟨HF, Hslots⟩, Hback, ⟨Hh, Hhomes⟩, ⟨HO, Hos⟩, Hd, ⟨Hr, Hrs⟩⟩
    iapply (wp_wand_r Idealize.ShloMosaic.frame (wpE (defs₀ (F := F)) 𝒱₀ (c : Thread nD τ) none) Set.univ)
    isplitl [HW Hw HF Hh HO Hr]
    · iapply (trip2_first c XP wv k h2 O)
      iframe
    · iintro %_ ⟨HW, Hw, HF, Hh, HO⟩
      iframe
  · rw [oRole_busy c XP wv (show 2 ≤ k.val by omega), show k.val + 1 - 2 = k.val - 2 + 1 by omega, run_last (oDoneN c XP wv) (Nat.zero_le (k.val - 2))]
    by_cases h50 : k.val < 50
    · rw [pRole_next_busy c XP (show k.val + 6 < 56 by omega), run_first (pHomeN c XP) (show k.val + 6 < 56 by omega)]
      iintro ⟨HW, Hw, ⟨HF, Hslots⟩, Hback, ⟨Hh, Hhomes⟩, ⟨HO, Hos⟩, Hd, ⟨Hr, Hrs⟩⟩
      iapply (wp_wand_r Idealize.ShloMosaic.frame (wpE (defs₀ (F := F)) 𝒱₀ (c : Thread nD τ) none) Set.univ)
      isplitl [HW Hw HF Hh HO Hr]
      · iapply (trip2_mid c XP wv k (by omega) h50 O)
        iframe
      · iintro %_ ⟨HW, Hw, HF, Hh, HO, Ho⟩
        iframe
    · rw [pRole_next_free c XP (show 56 ≤ k.val + 6 by omega)]
      have e : Finset.Ico (k.val + 6) 56 = Finset.Ico (k.val + 6 + 1) 56 := by ext x; simp only [Finset.mem_Ico]; omega
      rw [e]
      iintro ⟨HW, Hw, ⟨HF, Hslots⟩, Hback, Hhomes, ⟨HO, Hos⟩, Hd, ⟨Hr, Hrs⟩⟩
      iapply (wp_wand_r Idealize.ShloMosaic.frame (wpE (defs₀ (F := F)) 𝒱₀ (c : Thread nD τ) none) Set.univ)
      isplitl [HW Hw HF HO Hr]
      · iapply (trip2_late c XP wv k (by omega) O)
        iframe
      · iintro %_ ⟨HW, Hw, HF, Hh, HO, Ho⟩
        iframe

end Loop2

end Cert.Proof.Stream

end
-- ==== Proof.Body.lean ====
/-
  The kernel's whole run: the first transfers, the two loops by their invariants, the last two waits.
-/
module

public import proofs.«01_k».proof.Proof.Loops

@[expose] public section

set_option maxRecDepth 16384

noncomputable section

namespace Cert.Proof.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The blocks and slots in order -/

section Start
variable (c : Dev nD)
variable (XC : Buf (Elt F) (cM.view.loc (c : Thread nD τ))) (XP : Buf (Elt F) (pM.view.loc (c : Thread nD τ)))

/-- The first six blocks of the first input apart from the others; -/
theorem cHomes_first : bigSep (Finset.Ico 0 28) (cHomeN c XC)
    = iprop(cHomeP c XC 0 ∗ cHomeP c XC 1 ∗ cHomeP c XC 2 ∗ cHomeP c XC 3 ∗ cHomeP c XC 4 ∗ cHomeP c XC 5 ∗ bigSep (Finset.Ico 6 28) (cHomeN c XC)) := by
  rw [run_first _ (show 0 < 28 by omega), run_first _ (show 0 + 1 < 28 by omega), run_first _ (show 0 + 1 + 1 < 28 by omega),
    run_first _ (show 0 + 1 + 1 + 1 < 28 by omega), run_first _ (show 0 + 1 + 1 + 1 + 1 < 28 by omega), run_first _ (show 0 + 1 + 1 + 1 + 1 + 1 < 28 by omega)]
  rfl

/-- Slots counted round from any number on are the slots. -/
theorem run_slots {M : Type _} [URA M] (n : ℕ) [NeZero n] (Φ : Fin n → sProp M) (a : ℕ) :
    bigSep (Finset.Ico a (a + n)) (fun p => Φ (Ring.sl n p)) = bigSep (Finset.Ico 0 n) (fun p => Φ (Ring.sl n p)) := by
  have hn : 0 < n := Nat.pos_of_ne_zero (NeZero.ne n)
  induction a with
  | zero => rw [Nat.zero_add]
  | succ a ih =>
    rw [← ih, show a + 1 + n = a + n + 1 by omega, run_last _ (show a + 1 ≤ a + n by omega), run_first _ (show a < a + n by omega), Ring.sl_add]
/-- Six slots one by one; -/
theorem run_six {M : Type _} [URA M] (Φ : Fin 6 → sProp M) :
    bigSep (Finset.Ico 0 6) (fun p => Φ (Ring.sl 6 p)) = iprop(Φ 0 ∗ Φ 1 ∗ Φ 2 ∗ Φ 3 ∗ Φ 4 ∗ Φ 5) := by
  have e : Finset.Ico (0 + 1 + 1 + 1 + 1 + 1) 6 = {5} := by decide
  rw [run_first _ (show 0 < 6 by omega), run_first _ (show 0 + 1 < 6 by omega), run_first _ (show 0 + 1 + 1 < 6 by omega),
    run_first _ (show 0 + 1 + 1 + 1 < 6 by omega), run_first _ (show 0 + 1 + 1 + 1 + 1 < 6 by omega), e, BI.bigSep_singleton]
  rfl
/-- two slots. -/
theorem run_two {M : Type _} [URA M] (Φ : Fin 2 → sProp M) :
    bigSep (Finset.Ico 0 2) (fun p => Φ (Ring.sl 2 p)) = iprop(Φ 0 ∗ Φ 1) := by
  have e : Finset.Ico (0 + 1) 2 = {1} := by decide
  rw [run_first _ (show 0 < 2 by omega), e, BI.bigSep_singleton]
  rfl

/-- Over no places there is nothing to hold. -/
theorem run_none {M : Type _} [URA M] (Φ : ℕ → sProp M) {lo hi : ℕ} (h : hi ≤ lo) : bigSep (Finset.Ico lo hi) Φ = BI.emp := by
  rw [Finset.Ico_eq_empty (by omega), BI.bigSep_empty]
/-- Over the same places, what is the same at each place is the same together. -/
theorem run_congr {M : Type _} [URA M] {Φ Ψ : ℕ → sProp M} {lo hi : ℕ} (h : ∀ p, lo ≤ p → p < hi → Φ p = Ψ p) :
    bigSep (Finset.Ico lo hi) Φ = bigSep (Finset.Ico lo hi) Ψ :=
  bigSep_congr fun p hp => h p (Finset.mem_Ico.1 hp).1 (Finset.mem_Ico.1 hp).2

/-- What the first loop starts from: six blocks on their way. -/
theorem inv1_zero (f : Buf (Elt F) (aB.view.loc (c : Thread nD τ))) :
    iprop(accP c f ∗ owesP c
      ∗ (cBusy c XC 0 0 ∗ cBusy c XC 1 1 ∗ cBusy c XC 2 2 ∗ cBusy c XC 3 3 ∗ cBusy c XC 4 4 ∗ cBusy c XC 5 5) ∗ bigSep (Finset.Ico 6 28) (cHomeN c XC)
      ∗ (pFree (F := F) c 0 ∗ pFree (F := F) c 1 ∗ pFree (F := F) c 2 ∗ pFree (F := F) c 3 ∗ pFree (F := F) c 4 ∗ pFree (F := F) c 5)
      ∗ bigSep (Finset.Ico 0 56) (pHomeN c XP)) ⊢ inv1 c XC XP f 0 := by
  unfold inv1
  have e : bigSep (Finset.Ico 0 (0 + 6)) (cRole c XC) = iprop(cBusy c XC 0 0 ∗ cBusy c XC 1 1 ∗ cBusy c XC 2 2 ∗ cBusy c XC 3 3 ∗ cBusy c XC 4 4 ∗ cBusy c XC 5 5) := by
    have h := run_six (fun s => cBusy c XC s (Ring.bk 28 s.val))
    refine Eq.trans (run_congr fun p _ hp => ?_) h
    rw [cRole_busy c XC (show p < 28 by omega)]
    exact congrArg (fun x => cBusy c XC (Ring.sl 6 p) (Ring.bk 28 x)) (Nat.mod_eq_of_lt hp).symm
  rw [e, run_none _ (Nat.le_refl 0), run_none _ (show 0 - 22 ≤ 0 by omega), show 0 - 22 = 0 from rfl, show 0 + 6 = 6 from rfl, run_six (pFree (F := F) c)]
  iintro ⟨HA, HW, HC, Hc, HP, Hp⟩
  iframe
  isplitl [HA]; · iexact HA
  isplitl []; · iempintro
  iempintro
/-- What it ends with. -/
theorem inv1_end (f : Buf (Elt F) (aB.view.loc (c : Thread nD τ))) :
    inv1 c XC XP f 28 ⊢ iprop(accP c (accAt c XC f 28) ∗ owesP c
      ∗ (cFree (F := F) c 0 ∗ cFree (F := F) c 1 ∗ cFree (F := F) c 2 ∗ cFree (F := F) c 3 ∗ cFree (F := F) c 4 ∗ cFree (F := F) c 5) ∗ bigSep (Finset.Ico 0 28) (cHomeN c XC)
      ∗ bigSep (Finset.Ico 0 6) (pBusyN c XP) ∗ bigSep (Finset.Ico 6 56) (pHomeN c XP)) := by
  unfold inv1
  have e : bigSep (Finset.Ico 28 (28 + 6)) (cRole c XC) = iprop(cFree (F := F) c 0 ∗ cFree (F := F) c 1 ∗ cFree (F := F) c 2 ∗ cFree (F := F) c 3 ∗ cFree (F := F) c 4 ∗ cFree (F := F) c 5) :=
    (run_congr fun p hp _ => cRole_free c XC hp).trans ((run_slots 6 (cFree (F := F) c) 28).trans (run_six _))
  rw [e, show 28 - 22 = 6 from rfl]
  iintro ⟨HA, HW, HC, Hc, -, Hb, -, Hp⟩
  iframe

/-- The first loop before anything. -/
theorem loop1_run (f : Buf (Elt F) (aB.view.loc (c : Thread nD τ))) {β : Type} (kk : Unit → Prog (TpuEff nD τ sig (Elt F) Λ₀ .tc) β) (Q : β → sProp 𝕄) :
    inv1 c XC XP f 0 ⊢ iprop((inv1 c XC XP f 28 -∗ wp frame (wpE (defs₀ (F := F)) 𝒱₀ (c : Thread nD τ) none) Set.univ (kk ()) Q)
      -∗ wp frame (wpE (defs₀ (F := F)) 𝒱₀ (c : Thread nD τ) none) Set.univ
        (k0_t1_loop.for k0_t1_ok () (k0_t1_body (F := F) cM (Memref.isWhole_whole _) pM (Memref.isWhole_whole _) oM (Memref.isWhole_whole _) cB (Memref.isWhole_whole _) pB (Memref.isWhole_whole _)
          oB (Memref.isWhole_whole _) aB (Memref.isWhole_whole _) wB (Memref.isWhole_whole _) cc0_scratch5 cc0_scratch6 cc0_scratch7) >>= kk) Q) := by
  have h := Scf.wp_for_bind Idealize.ShloMosaic.frame (wpE (defs₀ (F := F)) 𝒱₀ (c : Thread nD τ) none) Set.univ k0_t1_loop.lb k0_t1_loop.ub k0_t1_loop.st k0_t1_ok () _
    (fun k _ => inv1 c XC XP f k) (fun k _ => inv1_step c XC XP f k) (kk := kk) (Q := Q)
  iintro HI HK
  iapply h $$ HI
  iintro %_ HI
  iapply HK
  iapply (turn (congrArg (inv1 c XC XP f) trips1))
  iexact HI

end Start

section Start2
variable (c : Dev nD)
variable (XP : Buf (Elt F) (pM.view.loc (c : Thread nD τ))) (wv : Buf (Elt F) (wB.view.loc (c : Thread nD τ))) (O : Buf (Elt F) (oM.view.loc (c : Thread nD τ)))

/-- What the second loop starts from; -/
theorem inv2_zero :
    iprop(owesP c ∗ wP c wv ∗ bigSep (Finset.Ico 0 6) (pBusyN c XP) ∗ bigSep (Finset.Ico 6 56) (pHomeN c XP) ∗ (oFree (F := F) c 0 ∗ oFree (F := F) c 1)
      ∗ bigSep (Finset.Ico 0 56) (oRawN c O)) ⊢ inv2 c XP wv O 0 := by
  unfold inv2
  have e : bigSep (Finset.Ico 0 (0 + 6)) (pRole c XP) = bigSep (Finset.Ico 0 6) (pBusyN c XP) := run_congr fun p _ hp => pRole_busy c XP (by omega)
  have e' : bigSep (Finset.Ico 0 (0 + 2)) (oRole c XP wv) = iprop(oFree (F := F) c 0 ∗ oFree (F := F) c 1) :=
    (run_congr fun p _ hp => oRole_free c XP wv (by omega)).trans (run_two (oFree (F := F) c))
  rw [e, e', run_none _ (Nat.le_refl 0), run_none _ (show 0 - 2 ≤ 0 by omega), show 0 + 6 = 6 from rfl]
  iintro ⟨HW, Hw, HP, Hp, HO, Ho⟩
  iframe
  isplitl []; · iempintro
  iempintro
/-- what it ends with: the last two output blocks on their way. -/
theorem inv2_end :
    inv2 c XP wv O 56 ⊢ iprop(owesP c ∗ wP c wv
      ∗ (pFree (F := F) c 0 ∗ pFree (F := F) c 1 ∗ pFree (F := F) c 2 ∗ pFree (F := F) c 3 ∗ pFree (F := F) c 4 ∗ pFree (F := F) c 5) ∗ bigSep (Finset.Ico 0 56) (pHomeN c XP)
      ∗ oBusy c XP wv 0 54 ∗ oBusy c XP wv 1 55 ∗ bigSep (Finset.Ico 0 54) (oDoneN c XP wv)) := by
  unfold inv2
  have e : bigSep (Finset.Ico 56 (56 + 6)) (pRole c XP) = iprop(pFree (F := F) c 0 ∗ pFree (F := F) c 1 ∗ pFree (F := F) c 2 ∗ pFree (F := F) c 3 ∗ pFree (F := F) c 4 ∗ pFree (F := F) c 5) :=
    (run_congr fun p hp _ => pRole_free c XP hp).trans ((run_slots 6 (pFree (F := F) c) 56).trans (run_six _))
  have e' : bigSep (Finset.Ico 56 (56 + 2)) (oRole c XP wv) = iprop(oBusy c XP wv 0 54 ∗ oBusy c XP wv 1 55) := by
    rw [run_first _ (show 56 < 56 + 2 by omega), show Finset.Ico (56 + 1) (56 + 2) = {57} by decide, BI.bigSep_singleton, oRole_busy c XP wv (show 2 ≤ 56 by omega),
      oRole_busy c XP wv (show 2 ≤ 57 by omega)]
    rfl
  rw [e, e', show 56 - 2 = 54 from rfl]
  iintro ⟨HW, Hw, HP, Hp, -, ⟨HO0, HO1⟩, Ho, -⟩
  iframe
/-- The output whole, its last two blocks apart. -/
theorem oDone_last : bigSep (Finset.Ico 0 56) (oDoneN c XP wv) = iprop(oHomeP c 55 (oAll c XP wv) ∗ oHomeP c 54 (oAll c XP wv) ∗ bigSep (Finset.Ico 0 54) (oDoneN c XP wv)) :=
  (run_last _ (Nat.zero_le 55)).trans (congrArg (fun X : sProp 𝕄 => iprop(oHomeP c 55 (oAll c XP wv) ∗ X)) (run_last _ (Nat.zero_le 54)))

/-- The second loop before anything. -/
theorem loop2_run {β : Type} (kk : Unit → Prog (TpuEff nD τ sig (Elt F) Λ₀ .tc) β) (Q : β → sProp 𝕄) :
    inv2 c XP wv O 0 ⊢ iprop((inv2 c XP wv O 56 -∗ wp frame (wpE (defs₀ (F := F)) 𝒱₀ (c : Thread nD τ) none) Set.univ (kk ()) Q)
      -∗ wp frame (wpE (defs₀ (F := F)) 𝒱₀ (c : Thread nD τ) none) Set.univ
        (k0_t2_loop.for k0_t2_ok () (k0_t2_body (F := F) cM (Memref.isWhole_whole _) pM (Memref.isWhole_whole _) oM (Memref.isWhole_whole _) cB (Memref.isWhole_whole _) pB (Memref.isWhole_whole _)
          oB (Memref.isWhole_whole _) aB (Memref.isWhole_whole _) wB (Memref.isWhole_whole _) cc0_scratch5 cc0_scratch6 cc0_scratch7) >>= kk) Q) := by
  have h := Scf.wp_for_bind Idealize.ShloMosaic.frame (wpE (defs₀ (F := F)) 𝒱₀ (c : Thread nD τ) none) Set.univ k0_t2_loop.lb k0_t2_loop.ub k0_t2_loop.st k0_t2_ok () _
    (fun k _ => inv2 c XP wv O k) (fun k _ => inv2_step c XP wv O k) (kk := kk) (Q := Q)
  iintro HI HK
  iapply h $$ HI
  iintro %_ HI
  iapply HK
  iapply (turn (congrArg (inv2 c XP wv O) trips2))
  iexact HI

end Start2

section Run
variable (c : Dev nD)
variable (XC : Buf (Elt F) (cM.view.loc (c : Thread nD τ))) (XP : Buf (Elt F) (pM.view.loc (c : Thread nD τ))) (O : Buf (Elt F) (oM.view.loc (c : Thread nD τ)))

/-- The kernel on its buffers. -/
abbrev body : Prog (TpuEff nD τ sig (Elt F) Λ₀ .tc) PUnit :=
  cc0__stream_kernel (F := F) cM (Memref.isWhole_whole _) pM (Memref.isWhole_whole _) oM (Memref.isWhole_whole _) cB (Memref.isWhole_whole _) pB (Memref.isWhole_whole _)
    oB (Memref.isWhole_whole _) aB (Memref.isWhole_whole _) wB (Memref.isWhole_whole _) cc0_scratch5 cc0_scratch6 cc0_scratch7

/-- The accumulator after the first loop; -/
def accEnd : Buf (Elt F) (aB.view.loc (c : Thread nD τ)) := accAt c XC (k0_pay3 (F := F)) 28
/-- the weights the second loop selects. -/
def wEnd : Buf (Elt F) (wB.view.loc (c : Thread nD τ)) := k0_pay1 (k0_pay5 (accEnd c XC))

/-- The slots and buffers of the core's own, at anything, and their semaphores at zero. -/
def scratchP : sProp 𝕄 :=
  iprop((cFree (F := F) c 0 ∗ cFree (F := F) c 1 ∗ cFree (F := F) c 2 ∗ cFree (F := F) c 3 ∗ cFree (F := F) c 4 ∗ cFree (F := F) c 5)
    ∗ (pFree (F := F) c 0 ∗ pFree (F := F) c 1 ∗ pFree (F := F) c 2 ∗ pFree (F := F) c 3 ∗ pFree (F := F) c 4 ∗ pFree (F := F) c 5)
    ∗ (oFree (F := F) c 0 ∗ oFree (F := F) c 1) ∗ (∃ f, accP (F := F) c f) ∗ (∃ f, wP (F := F) c f))

/-- The kernel's body, from the three arrays at home and the scratch free: it runs to the end and leaves the output as computed. -/
theorem run_body (Q : PUnit → sProp 𝕄) :
    iprop((bigSep (Finset.Ico 0 28) (cHomeN c XC) ∗ bigSep (Finset.Ico 0 56) (pHomeN c XP) ∗ bigSep (Finset.Ico 0 56) (oRawN c O) ∗ scratchP (F := F) c ∗ owesP c)
      ∗ ((bigSep (Finset.Ico 0 28) (cHomeN c XC) ∗ bigSep (Finset.Ico 0 56) (pHomeN c XP) ∗ bigSep (Finset.Ico 0 56) (oDoneN c XP (wEnd c XC)) ∗ scratchP (F := F) c ∗ owesP c) -∗ Q ⟨⟩))
      ⊢ wp frame (wpE (defs₀ (F := F)) 𝒱₀ (c : Thread nD τ) none) Set.univ (body (F := F)) Q := by
  rw [cHomes_first]
  unfold scratchP
  iintro ⟨⟨⟨H0, H1, H2, H3, H4, H5, Hc⟩, Hp, Ho, ⟨⟨⟨⟨%f0, S0⟩, C0⟩, ⟨⟨%f1, S1⟩, C1⟩, ⟨⟨%f2, S2⟩, C2⟩, ⟨⟨%f3, S3⟩, C3⟩, ⟨⟨%f4, S4⟩, C4⟩, ⟨⟨%f5, S5⟩, C5⟩⟩, HPF, HOF, ⟨%fa, HA⟩, ⟨%fw, HWt⟩⟩, ⟨%W, HW⟩⟩, Hk⟩
  dsimp only [body]
  sl_exec
  -- the first loop
  ihave HI := (inv1_zero c XC XP (k0_pay3 (F := F))) $$ [HA HW C0 C1 C2 C3 C4 C5 Hc HPF Hp]
  · isplitl [HA]
    · unfold run_body.sl.HA_1
      rw [aStore c]
      iexact HA
    isplitl [HW]; · iexists W; iexact HW
    isplitl [C0 C1 C2 C3 C4 C5]
    · isplitl [C0]; · iexists f0; iexact C0
      isplitl [C1]; · iexists f1; iexact C1
      isplitl [C2]; · iexists f2; iexact C2
      isplitl [C3]; · iexists f3; iexact C3
      isplitl [C4]; · iexists f4; iexact C4
      iexists f5; iexact C5
    isplitl [Hc]; · iexact Hc
    isplitl [HPF]; · iexact HPF
    iexact Hp
  ihave HL := (loop1_run c XC XP (k0_pay3 (F := F)) _ _) $$ HI
  iapply HL
  iintro HI
  ihave HE := (inv1_end c XC XP (k0_pay3 (F := F))) $$ HI
  icases HE with ⟨HA, ⟨%W1, HW⟩, HCF, Hc, HPB, Hp⟩
  sl_exec
  -- the second
  ihave HI := (inv2_zero c XP (wEnd c XC) O) $$ [HW HWt HPB Hp HOF Ho]
  · isplitl [HW]; · iexists W1; iexact HW
    isplitl [HWt]
    · unfold run_body.sl.HWt_1
      rw [wStore c]
      unfold run_body.sl.r wEnd accEnd
      rw [aLoad c]
      iexact HWt
    isplitl [HPB]; · iexact HPB
    isplitl [Hp]; · iexact Hp
    isplitl [HOF]; · iexact HOF
    iexact Ho
  ihave HL := (loop2_run c XP (wEnd c XC) O _ _) $$ HI
  iapply HL
  iintro HI
  ihave HE := (inv2_end c XP (wEnd c XC) O) $$ HI
  icases HE with ⟨⟨%W2, HW⟩, HWt, HPF, Hp, ⟨%g0, HO0⟩, ⟨%g1, HO1⟩, Ho⟩
  -- the last two blocks home
  sl_exec
  sl_step
  iapply Hk
  isplitl [Hc]
  · iapply (turn (cHomes_first c XC)); iexact Hc
  isplitl [Hp]; · iexact Hp
  isplitl [Ho HO0_dst HO1_dst]
  · iapply (turn (oDone_last c XP (wEnd c XC)).symm)
    isplitl [HO1_dst]; · iexact HO1_dst
    isplitl [HO0_dst]; · iexact HO0_dst
    iexact Ho
  isplitr [HW]
  · isplitl [HCF]; · iexact HCF
    isplitl [HPF]; · iexact HPF
    isplitl [HO0_src HO0 HO1_src HO1]
    · isplitl [HO0_src HO0]
      · isplitl [HO0_src]; · iexists g0; iexact HO0_src
        iexact HO0
      isplitl [HO1_src]; · iexists g1; iexact HO1_src
      iexact HO1
    isplitl [HA]; · iexists _; iexact HA
    iexists _; iexact HWt
  iexists _; iexact HW

end Run

end Cert.Proof.Stream

end
-- ==== Proof.Launch.lean ====
/-
  The launch: the buffers cut into the blocks and slots the body works on, the region's proof data, and the run of the whole program.
-/
module

public import proofs.«01_k».proof.Proof.Body

@[expose] public section

set_option maxRecDepth 16384

noncomputable section

namespace Cert.Proof.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

open Idealize.ShloMosaic.Pipeline (Dat Cfg Window BodyObligation)

/-! ## A family over the first `n` numbers -/

omit [FloatOps F] in
/-- The family over `Fin n` is the family over the numbers below `n`. -/
theorem fin_as_Ico {n : ℕ} (h : 0 < n) (B : ℕ → Fin n) (hB : ∀ b : Fin n, B b.val = b) (Φ : Fin n → sProp 𝕄) :
    bigSep Finset.univ Φ = bigSep (Finset.Ico 0 n) (fun p => Φ (B p)) := by
  have e : Finset.Ico 0 n = (Finset.univ : Finset (Fin n)).map Fin.valEmbedding := by
    ext x
    simp only [Finset.mem_Ico, Finset.mem_map, Finset.mem_univ, true_and, Fin.valEmbedding_apply]
    exact ⟨fun hx => ⟨⟨x, hx.2⟩, rfl⟩, fun ⟨b, hb⟩ => hb ▸ ⟨Nat.zero_le _, b.isLt⟩⟩
  rw [e, bigSep_map]
  exact bigSep_congr fun b _ => congrArg Φ (hB b).symm

/-- Block number `b` below 28 is block `b`. -/
theorem bk28 (b : Fin 28) : Ring.bk 28 b.val = b := by revert b; decide
/-- Block number `b` below 56 is block `b`. -/
theorem bk56 (b : Fin 56) : Ring.bk 56 b.val = b := by revert b; decide

/-! ## Element sets -/

abbrev cSet (b : Fin 28) : Finset S28x7x128x512.Idx := (Rect.unit (s := S28x7x128x512) (cHomeOff b) S1x7x128x512.size (cHomeOff_inb b)).set
abbrev pSet (b : Fin 56) : Finset S56x14x128x256.Idx := (Rect.unit (s := S56x14x128x256) (pHomeOff b) S1x14x128x256.size (pHomeOff_inb b)).set
abbrev oSet (b : Fin 56) : Finset S56x14x256.Idx := (Rect.unit (s := S56x14x256) (oHomeOff b) S1x14x256.size (oHomeOff_inb b)).set
abbrev cSlots (s : Fin 6) : Finset S6x1x7x128x512.Idx := (Rect.unit (s := S6x1x7x128x512) (inOff s) S1x1x7x128x512.size (cSlotOff_inb s)).set
abbrev pSlots (s : Fin 6) : Finset S6x1x14x128x256.Idx := (Rect.unit (s := S6x1x14x128x256) (inOff s) S1x1x14x128x256.size (pSlotOff_inb s)).set
abbrev oSlots (s : Fin 2) : Finset S2x1x14x256.Idx := (Rect.unit (s := S2x1x14x256) (outOff s) S1x1x14x256.size (oSlotOff_inb s)).set

/-- Two blocks of the second input have no entry in common. -/
theorem cSet_disj : ∀ b b' : Fin 28, b ≠ b' → Disjoint (cSet b) (cSet b') :=
  Ring.lead_disjoint (s := S28x7x128x512) (0 : Fin 4) 1 cHomeOff S1x7x128x512.size cHomeOff_inb (by decide) rfl
/-- The blocks of the second input are all of it. -/
theorem cSet_cover : Finset.univ.biUnion cSet = Finset.univ :=
  Ring.lead_cover (s := S28x7x128x512) (0 : Fin 4) 1 cHomeOff S1x7x128x512.size cHomeOff_inb (by decide) (by decide) rfl (by decide) rfl
/-- Two blocks of the first input have no entry in common. -/
theorem pSet_disj : ∀ b b' : Fin 56, b ≠ b' → Disjoint (pSet b) (pSet b') :=
  Ring.lead_disjoint (s := S56x14x128x256) (0 : Fin 4) 1 pHomeOff S1x14x128x256.size pHomeOff_inb (by decide) rfl
/-- The blocks of the first input are all of it. -/
theorem pSet_cover : Finset.univ.biUnion pSet = Finset.univ :=
  Ring.lead_cover (s := S56x14x128x256) (0 : Fin 4) 1 pHomeOff S1x14x128x256.size pHomeOff_inb (by decide) (by decide) rfl (by decide) rfl
/-- Two blocks of the output have no entry in common. -/
theorem oSet_disj : ∀ b b' : Fin 56, b ≠ b' → Disjoint (oSet b) (oSet b') :=
  Ring.lead_disjoint (s := S56x14x256) (0 : Fin 3) 1 oHomeOff S1x14x256.size oHomeOff_inb (by decide) rfl
/-- The blocks of the output are all of it. -/
theorem oSet_cover : Finset.univ.biUnion oSet = Finset.univ :=
  Ring.lead_cover (s := S56x14x256) (0 : Fin 3) 1 oHomeOff S1x14x256.size oHomeOff_inb (by decide) (by decide) rfl (by decide) rfl
/-- Two slots for blocks of the second input have no entry in common. -/
theorem cSlots_disj : ∀ b b' : Fin 6, b ≠ b' → Disjoint (cSlots b) (cSlots b') :=
  Ring.lead_disjoint (s := S6x1x7x128x512) (0 : Fin 5) 1 inOff S1x1x7x128x512.size cSlotOff_inb (by decide) rfl
/-- The slots for blocks of the second input are all of their buffer. -/
theorem cSlots_cover : Finset.univ.biUnion cSlots = Finset.univ :=
  Ring.lead_cover (s := S6x1x7x128x512) (0 : Fin 5) 1 inOff S1x1x7x128x512.size cSlotOff_inb (by decide) (by decide) rfl (by decide) rfl
/-- Two slots for blocks of the first input have no entry in common. -/
theorem pSlots_disj : ∀ b b' : Fin 6, b ≠ b' → Disjoint (pSlots b) (pSlots b') :=
  Ring.lead_disjoint (s := S6x1x14x128x256) (0 : Fin 5) 1 inOff S1x1x14x128x256.size pSlotOff_inb (by decide) rfl
/-- The slots for blocks of the first input are all of their buffer. -/
theorem pSlots_cover : Finset.univ.biUnion pSlots = Finset.univ :=
  Ring.lead_cover (s := S6x1x14x128x256) (0 : Fin 5) 1 inOff S1x1x14x128x256.size pSlotOff_inb (by decide) (by decide) rfl (by decide) rfl
/-- Two slots for blocks of the output have no entry in common. -/
theorem oSlots_disj : ∀ b b' : Fin 2, b ≠ b' → Disjoint (oSlots b) (oSlots b') :=
  Ring.lead_disjoint (s := S2x1x14x256) (0 : Fin 4) 1 outOff S1x1x14x256.size oSlotOff_inb (by decide) rfl
/-- The slots for blocks of the output are all of their buffer. -/
theorem oSlots_cover : Finset.univ.biUnion oSlots = Finset.univ :=
  Ring.lead_cover (s := S2x1x14x256) (0 : Fin 4) 1 outOff S1x1x14x256.size oSlotOff_inb (by decide) (by decide) rfl (by decide) rfl

/-- A block of the second input, as a window, covers the block's entries. -/
theorem cHome_set (b : Fin 28) : (cHome b).view.set = cSet b := View.set_slice_whole _ _
/-- A block of the first input, as a window, covers the block's entries. -/
theorem pHome_set (b : Fin 56) : (pHome b).view.set = pSet b := View.set_slice_whole _ _
/-- A block of the output, as a window, covers the block's entries. -/
theorem oHome_set (b : Fin 56) : (oHome b).view.set = oSet b := View.set_slice_whole _ _
/-- A slot for blocks of the second input, as a window, covers the slot's entries. -/
theorem cSlot_set (s : Fin 6) : (cSlot s).view.set = cSlots s := (View.set_reshape _ _).trans (View.set_slice_whole _ _)
/-- A slot for blocks of the first input, as a window, covers the slot's entries. -/
theorem pSlot_set (s : Fin 6) : (pSlot s).view.set = pSlots s := (View.set_reshape _ _).trans (View.set_slice_whole _ _)
/-- A slot for blocks of the output, as a window, covers the slot's entries. -/
theorem oSlot_set (s : Fin 2) : (oSlot s).view.set = oSlots s := (View.set_reshape _ _).trans (View.set_slice_whole _ _)

section Cut
variable (c : Dev nD)

/-! ## The inputs and the output whole are their blocks -/

omit [FloatOps F] in
/-- The second input is its 28 blocks. -/
theorem c_whole (f : Buf (Elt F) (cM.view.loc (c : Thread nD τ))) :
    (((c : Thread nD τ).loc main_v3) ↦{fullShare} f : sProp 𝕄) = bigSep (Finset.Ico 0 28) (cHomeN c f) := by
  rw [← fin_as_Ico (by decide) (Ring.bk 28) bk28 (cHomeP c f), Ring.pointsTo_blocks (ℓ := (c : Thread nD τ).loc main_v3) cSet cSet_disj cSet_cover]
  exact bigSep_congr fun b _ => by rw [← cHome_set]; rfl
omit [FloatOps F] in
/-- The first input is its 56 blocks. -/
theorem p_whole (f : Buf (Elt F) (pM.view.loc (c : Thread nD τ))) :
    (((c : Thread nD τ).loc main_v1) ↦{fullShare} f : sProp 𝕄) = bigSep (Finset.Ico 0 56) (pHomeN c f) := by
  rw [← fin_as_Ico (by decide) (Ring.bk 56) bk56 (pHomeP c f), Ring.pointsTo_blocks (ℓ := (c : Thread nD τ).loc main_v1) pSet pSet_disj pSet_cover]
  exact bigSep_congr fun b _ => by rw [← pHome_set]; rfl
/-- The output is its 56 blocks. -/
theorem o_whole (f : Buf (Elt F) (oM.view.loc (c : Thread nD τ))) :
    (((c : Thread nD τ).loc main_v4) ↦{fullShare} f : sProp 𝕄) = bigSep (Finset.Ico 0 56) (oRawN c f) := by
  rw [← fin_as_Ico (by decide) (Ring.bk 56) bk56 (fun b => oHomeP c b f), Ring.pointsTo_blocks (ℓ := (c : Thread nD τ).loc main_v4) oSet oSet_disj oSet_cover]
  exact bigSep_congr fun b _ => by rw [← oHome_set]; rfl

/-! ## The scratch buffers whole are their slots, at any contents, and back -/

omit [FloatOps F] in
/-- A buffer at some contents is its pieces, each at some contents. -/
theorem split_any {ℓ : Loc nD τ sig} {n : ℕ} (I : Fin n → Finset (Idx ℓ)) (hd : ∀ b b', b ≠ b' → Disjoint (I b) (I b'))
    (hc : Finset.univ.biUnion I = Finset.univ) :
    iprop(∃ f : Buf (Elt F) ℓ, ℓ ↦{fullShare} f) ⊢ (bigSep Finset.univ (fun b => iprop(∃ f : Buf (Elt F) ℓ, ℓ ↦[I b]{fullShare} f)) : sProp 𝕄) := by
  iintro ⟨%f, H⟩
  ihave H' := (turn (Ring.pointsTo_blocks (ℓ := ℓ) I hd hc f)) $$ H
  have h : (bigSep Finset.univ (fun b => (ℓ ↦[I b]{fullShare} f : sProp 𝕄)) : sProp 𝕄)
      ⊢ bigSep Finset.univ (fun b => iprop(∃ f : Buf (Elt F) ℓ, ℓ ↦[I b]{fullShare} f)) :=
    bigSep_mono fun b _ => (show (ℓ ↦[I b]{fullShare} f : sProp 𝕄) ⊢ iprop(∃ f : Buf (Elt F) ℓ, ℓ ↦[I b]{fullShare} f) from by iintro H; iexists f; iexact H)
  iapply h; iexact H'

omit [FloatOps F] in
/-- Over six places: the six, one by one. -/
theorem fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ
omit [FloatOps F] in
/-- Over two places: the two. -/
theorem fin2 (Φ : Fin 2 → sProp 𝕄) : bigSep Finset.univ Φ = iprop(Φ 0 ∗ Φ 1) :=
  bigSep_univ_eq_bigSepL [(0 : Fin 2), 1] (by decide) (by decide) Φ

/-- A ring buffer at some contents, beside its slots' semaphores: each slot free. -/
abbrev anyBuf (b : Ref sig .tc) : sProp 𝕄 := iprop(∃ f : Buf (Elt F) ((c : Thread nD τ).loc b), ((c : Thread nD τ).loc b) ↦{fullShare} f)

/-- The buffer for blocks of the second input and its semaphores at zero are its slots, free. -/
theorem c_free_in : iprop(anyBuf (F := F) c cc0_scratch0 ∗ bigSep Finset.univ (cCell (F := F) c)) ⊢ (bigSep Finset.univ (cFree (F := F) c) : sProp 𝕄) := by
  rw [show (bigSep Finset.univ (cFree (F := F) c) : sProp 𝕄) = _ from bigSep_sep _ _ _]
  refine sep_mono_left ((split_any (ℓ := (c : Thread nD τ).loc cc0_scratch0) cSlots cSlots_disj cSlots_cover).trans (turn ?_))
  exact bigSep_congr fun s _ => by rw [← cSlot_set]; rfl
/-- Its slots, free, are the buffer for blocks of the second input and its semaphores at zero. -/
theorem c_free_out : (bigSep Finset.univ (cFree (F := F) c) : sProp 𝕄) ⊢ iprop(anyBuf (F := F) c cc0_scratch0 ∗ bigSep Finset.univ (cCell (F := F) c)) := by
  rw [show (bigSep Finset.univ (cFree (F := F) c) : sProp 𝕄) = _ from bigSep_sep _ _ _]
  refine sep_mono_left ((turn ?_).trans (Ring.pointsTo_blocks_join_exists (ℓ := (c : Thread nD τ).loc cc0_scratch0) cSlots cSlots_disj cSlots_cover cB.view.junk))
  exact bigSep_congr fun s _ => by rw [← cSlot_set]; rfl
/-- The buffer for blocks of the first input and its semaphores at zero are its slots, free. -/
theorem p_free_in : iprop(anyBuf (F := F) c cc0_scratch1 ∗ bigSep Finset.univ (pCell (F := F) c)) ⊢ (bigSep Finset.univ (pFree (F := F) c) : sProp 𝕄) := by
  rw [show (bigSep Finset.univ (pFree (F := F) c) : sProp 𝕄) = _ from bigSep_sep _ _ _]
  refine sep_mono_left ((split_any (ℓ := (c : Thread nD τ).loc cc0_scratch1) pSlots pSlots_disj pSlots_cover).trans (turn ?_))
  exact bigSep_congr fun s _ => by rw [← pSlot_set]; rfl
/-- Its slots, free, are the buffer for blocks of the first input and its semaphores at zero. -/
theorem p_free_out : (bigSep Finset.univ (pFree (F := F) c) : sProp 𝕄) ⊢ iprop(anyBuf (F := F) c cc0_scratch1 ∗ bigSep Finset.univ (pCell (F := F) c)) := by
  rw [show (bigSep Finset.univ (pFree (F := F) c) : sProp 𝕄) = _ from bigSep_sep _ _ _]
  refine sep_mono_left ((turn ?_).trans (Ring.pointsTo_blocks_join_exists (ℓ := (c : Thread nD τ).loc cc0_scratch1) pSlots pSlots_disj pSlots_cover pB.view.junk))
  exact bigSep_congr fun s _ => by rw [← pSlot_set]; rfl
/-- The buffer for blocks of the output and its semaphores at zero are its slots, free. -/
theorem o_free_in : iprop(anyBuf (F := F) c cc0_scratch2 ∗ bigSep Finset.univ (oCell (F := F) c)) ⊢ (bigSep Finset.univ (oFree (F := F) c) : sProp 𝕄) := by
  rw [show (bigSep Finset.univ (oFree (F := F) c) : sProp 𝕄) = _ from bigSep_sep _ _ _]
  refine sep_mono_left ((split_any (ℓ := (c : Thread nD τ).loc cc0_scratch2) oSlots oSlots_disj oSlots_cover).trans (turn ?_))
  exact bigSep_congr fun s _ => by rw [← oSlot_set]; rfl
/-- Its slots, free, are the buffer for blocks of the output and its semaphores at zero. -/
theorem o_free_out : (bigSep Finset.univ (oFree (F := F) c) : sProp 𝕄) ⊢ iprop(anyBuf (F := F) c cc0_scratch2 ∗ bigSep Finset.univ (oCell (F := F) c)) := by
  rw [show (bigSep Finset.univ (oFree (F := F) c) : sProp 𝕄) = _ from bigSep_sep _ _ _]
  refine sep_mono_left ((turn ?_).trans (Ring.pointsTo_blocks_join_exists (ℓ := (c : Thread nD τ).loc cc0_scratch2) oSlots oSlots_disj oSlots_cover oB.view.junk))
  exact bigSep_congr fun s _ => by rw [← oSlot_set]; rfl

/-- The accumulator and the weights, whole. -/
theorem a_any : (iprop(∃ f, accP (F := F) c f) : sProp 𝕄) = anyBuf c cc0_scratch3 :=
  congrArg (fun S => (iprop(∃ f : Buf (Elt F) ((c : Thread nD τ).loc cc0_scratch3), ((c : Thread nD τ).loc cc0_scratch3) ↦[S]{fullShare} f) : sProp 𝕄)) (View.set_whole cc0_scratch3)
/-- The weights at anything are their buffer at anything. -/
theorem w_any : (iprop(∃ f, wP (F := F) c f) : sProp 𝕄) = anyBuf c cc0_scratch4 :=
  congrArg (fun S => (iprop(∃ f : Buf (Elt F) ((c : Thread nD τ).loc cc0_scratch4), ((c : Thread nD τ).loc cc0_scratch4) ↦[S]{fullShare} f) : sProp 𝕄)) (View.set_whole cc0_scratch4)

/-- The body's scratch, spelled out. -/
theorem scratch_eq : (scratchP (F := F) c : sProp 𝕄)
    = iprop(bigSep Finset.univ (cFree (F := F) c) ∗ bigSep Finset.univ (pFree (F := F) c) ∗ bigSep Finset.univ (oFree (F := F) c) ∗ anyBuf (F := F) c cc0_scratch3 ∗ anyBuf (F := F) c cc0_scratch4) := by
  unfold scratchP
  rw [fin6, fin6, fin2, a_any, w_any]

/-- The three ring buffers, the accumulator and the weights at anything, with the transfers' semaphores at zero, are the body's scratch, -/
theorem scratch_in :
    iprop(Pipeline.scopedRest (Ix := Unit) (Name := ℕ) (U := UU nD τ) (Lvl := ℕ) (Val := Elt F) cfg0.spec c
      ∗ bigSep Finset.univ (cCell (F := F) c) ∗ bigSep Finset.univ (pCell (F := F) c) ∗ bigSep Finset.univ (oCell (F := F) c)) ⊢ (scratchP (F := F) c : sProp 𝕄) := by
  rw [scopedRest0_eq, scratch_eq]
  iintro ⟨⟨B0, B1, B2, B3, B4⟩, HC, HP, HO⟩
  isplitl [B0 HC]
  · iapply (c_free_in c); isplitl [B0]; · iexact B0
    iexact HC
  isplitl [B1 HP]
  · iapply (p_free_in c); isplitl [B1]; · iexact B1
    iexact HP
  isplitl [B2 HO]
  · iapply (o_free_in c); isplitl [B2]; · iexact B2
    iexact HO
  isplitl [B3]; · iexact B3
  iexact B4

/-- and back. -/
theorem scratch_out :
    (scratchP (F := F) c : sProp 𝕄) ⊢ iprop(Pipeline.scopedRest (Ix := Unit) (Name := ℕ) (U := UU nD τ) (Lvl := ℕ) (Val := Elt F) cfg0.spec c
      ∗ bigSep Finset.univ (cCell (F := F) c) ∗ bigSep Finset.univ (pCell (F := F) c) ∗ bigSep Finset.univ (oCell (F := F) c)) := by
  rw [scopedRest0_eq, scratch_eq]
  iintro ⟨HC, HP, HO, B3, B4⟩
  ihave HC' := (c_free_out c) $$ HC
  ihave HP' := (p_free_out c) $$ HP
  ihave HO' := (o_free_out c) $$ HO
  icases HC' with ⟨B0, HC⟩
  icases HP' with ⟨B1, HP⟩
  icases HO' with ⟨B2, HO⟩
  isplitl [B0 B1 B2 B3 B4]
  · isplitl [B0]; · iexact B0
    isplitl [B1]; · iexact B1
    isplitl [B2]; · iexact B2
    isplitl [B3]; · iexact B3
    iexact B4
  isplitl [HC]; · iexact HC
  isplitl [HP]; · iexact HP
  iexact HO

/-! ## The kernel's own semaphores -/

/-- The fourteen transfer semaphores: six of the first input's slots, six of the second's, two of the output's. -/
abbrev osem : Fin 14 → SemLoc sig := ![.dma (cSem 0).sem, .dma (cSem 1).sem, .dma (cSem 2).sem, .dma (cSem 3).sem, .dma (cSem 4).sem, .dma (cSem 5).sem,
  .dma (pSem 0).sem, .dma (pSem 1).sem, .dma (pSem 2).sem, .dma (pSem 3).sem, .dma (pSem 4).sem, .dma (pSem 5).sem, .dma (oSem 0).sem, .dma (oSem 1).sem]
/-- The kernel's semaphores are its own: none is shared with the region's copies. -/
theorem ownSemFacts : Pipeline.OwnSemFacts cfg0.spec osem := by decide

omit [FloatOps F] in
/-- The kernel's semaphores at zero are its three arrays of them at zero. -/
theorem ownSems_eq : (Pipeline.ownSems0 (Ix := Unit) (Name := ℕ) (U := UU nD τ) (Lvl := ℕ) (Val := Elt F) (τ := τ) osem c : sProp 𝕄)
    = iprop(cCell c 0 ∗ cCell c 1 ∗ cCell c 2 ∗ cCell c 3 ∗ cCell c 4 ∗ cCell c 5 ∗ pCell c 0 ∗ pCell c 1 ∗ pCell c 2 ∗ pCell c 3 ∗ pCell c 4 ∗ pCell c 5 ∗ oCell c 0 ∗ oCell c 1) := by
  unfold Pipeline.ownSems0
  exact bigSep_univ_eq_bigSepL [(0 : Fin 14), 1, 2, 3, 4, 5, 6, 7, 8, 9, 10, 11, 12, 13] (by decide) (by decide) _

omit [FloatOps F] in
/-- They are so cell by cell. -/
theorem cells_eq : (Pipeline.ownSems0 (Ix := Unit) (Name := ℕ) (U := UU nD τ) (Lvl := ℕ) (Val := Elt F) (τ := τ) osem c : sProp 𝕄)
    ⊣⊢ iprop(bigSep Finset.univ (cCell (F := F) c) ∗ bigSep Finset.univ (pCell (F := F) c) ∗ bigSep Finset.univ (oCell (F := F) c)) := by
  rw [ownSems_eq, fin6, fin6, fin2]
  constructor
  · iintro ⟨C0, C1, C2, C3, C4, C5, P0, P1, P2, P3, P4, P5, O0, O1⟩
    isplitl [C0 C1 C2 C3 C4 C5]
    · iframe
    isplitl [P0 P1 P2 P3 P4 P5]
    · iframe
    · iframe
  · iintro ⟨⟨C0, C1, C2, C3, C4, C5⟩, ⟨P0, P1, P2, P3, P4, P5⟩, ⟨O0, O1⟩⟩
    iframe

end Cut

end Cert.Proof.Stream

end
-- ==== Proof.Run.lean ====
/-
  The region's proof data and the run of the whole program: the arguments unchanged, the semaphores at zero, the result as computed.
-/
module

public import proofs.«01_k».proof.Proof.Launch

@[expose] public section

set_option maxRecDepth 16384

noncomputable section

namespace Cert.Proof.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

open Idealize.ShloMosaic.Pipeline (Dat Cfg Window BodyObligation)

variable (m : (ℓ : Loc nD τ sig) → Buf (Elt F) ℓ) (g : Dev nD → PrngReg)

section Data
variable (c : Dev nD)

/-- The two inputs as the region finds them, and the output's buffer before it is written. -/
abbrev XCof : Buf (Elt F) (cM.view.loc (c : Thread nD τ)) := V m c main_v3
abbrev XPof : Buf (Elt F) (pM.view.loc (c : Thread nD τ)) := V m c main_v1
abbrev Oof : Buf (Elt F) (oM.view.loc (c : Thread nD τ)) := V m c main_v4
/-- The output as the region leaves it. -/
def Rof : Buf (Elt F) (oM.view.loc (c : Thread nD τ)) := oAll c (XPof m c) (wEnd c (XCof m c))

/-- The blocks of the two inputs and of the output (at the contents `f`), and the body's scratch. -/
def Φat (f : Buf (Elt F) (oM.view.loc (c : Thread nD τ))) : sProp 𝕄 :=
  iprop(bigSep (Finset.Ico 0 28) (cHomeN c (XCof m c)) ∗ bigSep (Finset.Ico 0 56) (pHomeN c (XPof m c)) ∗ bigSep (Finset.Ico 0 56) (oRawN c f) ∗ scratchP (F := F) c)

/-- The region has no window; before its one point the output is as found, after it as computed. -/
def dats (_ : Fin 1) (c : Dev nD) : Dat τ (Elt F) Unit ℕ (UU nD τ) ℕ cfg0 c where
  A w := V m c (Pipeline.arrRef cfg0.spec w)
  after w _ := w.elim0
  Φ t := Φat m c (if t.val = 0 then Oof m c else Rof m c)
  q _ := fullShare
  owed _ := 0

/-- Before the region's one point the output is as found. -/
theorem Φ_zero : (dats m 0 c).Φ 0 = Φat m c (Oof m c) := rfl
/-- After it the output is as computed. -/
theorem Φ_last : (dats m 0 c).Φ (Fin.last cfg0.N) = Φat m c (Rof m c) := rfl

/-- The region's body is the kernel's body. -/
theorem defs_tc : (defs₀ (F := F)) .tc cfg0.body = fun _ => body := rfl
/-- So it is at every point, whatever the arguments it is given. -/
theorem prog_eq (t : Fin cfg0.N) : (defs₀ (F := F)) .tc cfg0.body (cfg0.bodyArgs t (cfg0.slots t)) = body (F := F) :=
  (congrFun defs_tc _).trans rfl

set_option backward.isDefEq.respectTransparency.types false in
/-- The body, run at the region's one point, takes the state before it to the state after it. -/
theorem body_obligation : BodyObligation (dats m 0 c) (defs₀ (F := F)) 𝒱₀ () Set.univ := fun t => by
  rw [fin_N0 t]
  rw [show (dats m 0 c).Φ (Fin.castSucc t0_0) = Φat m c (Oof m c) from rfl, show (dats m 0 c).Φ (Fin.succ t0_0) = Φat m c (Rof m c) from rfl]
  unfold Dat.owesAt Pipeline.owesWithin
  rw [show (dats m 0 c).owed (Fin.castSucc t0_0) = 0 from rfl, show (dats m 0 c).owed (Fin.succ t0_0) = 0 from rfl]
  unfold Φat
  iintro ⟨⟨HC, HP, HO, HS⟩, ⟨%W, -, HW⟩, -⟩
  sl_rw [prog_eq (F := F) t0_0]
  iapply (run_body c (XCof m c) (XPof m c) (Oof m c))
  isplitl [HC HP HO HS HW]
  · isplitl [HC]; · iexact HC
    isplitl [HP]; · iexact HP
    isplitl [HO]; · iexact HO
    isplitl [HS]; · iexact HS
    iexists W; iexact HW
  · iintro ⟨HC, HP, HO, HS, ⟨%W', HW⟩⟩
    isplitl [HC HP HO HS]
    · isplitl [HC]; · iexact HC
      isplitl [HP]; · iexact HP
      isplitl [HO]; · iexact HO
      iexact HS
    isplitl [HW]
    · iexists W'; isplitr; · ipureintro; exact fun _ _ => Or.inl trivial
      iexact HW
    · iempintro

/-! ## The region's two sides -/

/-- What the region is given of the buffers it reads, and of the one it writes. -/
abbrev Hs : Finset (Ref sig .tc) := {main_v1, main_v3}
abbrev Rs : Finset (Ref sig .tc) := {main_v4}

/-- Every buffer's contents after the region: the output as computed, the others as before. -/
def Gof (b : Ref sig .tc) : Buf (Elt F) ((c : Thread nD τ).loc b) :=
  Function.update (V0 m c) (Proc.devRef .tc main_v4) (Rof m c) (Proc.devRef .tc b)

/-- After the region the output's buffer holds what was computed. -/
theorem Gof_v4 : Gof m c main_v4 = Rof m c := by unfold Gof; exact Function.update_self _ _ _

omit [FloatOps F] in
/-- What the region is handed, and hands back, spelled out: the three arrays, the scratch buffers and the semaphores. -/
theorem ΦDRV_eq (A B : (c : Dev nD) → (b : Ref sig .tc) → Buf (Elt F) ((c : Thread nD τ).loc b)) :
    (Pipeline.ΦDRV osem cfg0.spec Hs Rs A B c : sProp 𝕄)
      = iprop(Pipeline.scopedRest (Ix := Unit) (Name := ℕ) (U := UU nD τ) (Lvl := ℕ) (Val := Elt F) cfg0.spec c
        ∗ Pipeline.ownSems0 (Ix := Unit) (Name := ℕ) (U := UU nD τ) (Lvl := ℕ) (Val := Elt F) (τ := τ) osem c
        ∗ ((((c : Thread nD τ).loc main_v1) ↦{fullShare} A c main_v1) ∗ (((c : Thread nD τ).loc main_v3) ↦{fullShare} A c main_v3))
        ∗ (((c : Thread nD τ).loc main_v4) ↦{fullShare} B c main_v4)) := by
  unfold Pipeline.ΦDRV
  rw [BI.bigSep_insert (by decide), BI.bigSep_singleton, BI.bigSep_singleton]
  rfl

/-- What the region is handed is the state before its point. -/
theorem Φ_in : (Pipeline.ΦDRV osem cfg0.spec Hs Rs (V m) (V m) c : sProp 𝕄) ⊢ Φat m c (Oof m c) := by
  rw [ΦDRV_eq, c_whole, p_whole, o_whole]
  unfold Φat
  iintro ⟨HB, HS, ⟨HP, HC⟩, HO⟩
  isplitl [HC]; · iexact HC
  isplitl [HP]; · iexact HP
  isplitl [HO]; · iexact HO
  iapply (scratch_in c)
  isplitl [HB]; · iexact HB
  iapply (cells_eq c).1; iexact HS

/-- The state after its point is what the region hands back. -/
theorem Φ_out : Φat m c (Rof m c) ⊢ (Pipeline.ΦDRV osem cfg0.spec Hs Rs (V m) (Gof m) c : sProp 𝕄) := by
  rw [ΦDRV_eq, Gof_v4, c_whole, p_whole, o_whole]
  unfold Φat
  iintro ⟨HC, HP, HO, HS⟩
  ihave H := (scratch_out c) $$ HS
  icases H with ⟨HB, HS⟩
  isplitl [HB]; · iexact HB
  isplitl [HS]; · iapply (cells_eq c).2; iexact HS
  isplitl [HC HP]
  · isplitl [HP]; · iexact HP
    iexact HC
  iexact HO

end Data

/-! ## The run -/

set_option maxHeartbeats 800000 in
/-- The whole program is the host's first lines, the region, and the host's last lines. -/
theorem hmainK : Pipeline.HMainK (Ix := Unit) (Name := ℕ) (U := UU nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- Every buffer's contents after the region and the host's lines after it. -/
def Wof (c : Dev nD) : Valuation τ sig (Elt F) :=
  StableHlo.after (List.flatten [hostOps1]) (Pipeline.withArrays cfg0.spec c (Pipeline.withR (V0 m c) Rs c (Gof m c)) fun w => (dats m 0 c).arrAt w cfg0.N)

set_option backward.isDefEq.respectTransparency.types false in
/-- Every weakly fair execution ends, with each buffer outside the kernel's scratch as the host's last lines leave it and
    every semaphore at zero. -/
theorem run_main : θ_run (defs (F := F)) (onTc (τ := τ) (main (F := F))) (s₀ m g)
    (fun r => (∀ c : Dev nD, ∀ b ∈ Pipeline.restRefs sig cfg0.spec, r.2.mem ((c : Thread nD τ).loc b) = Wof m c (Proc.devRef .tc b)) ∧ r.2.sem = fun _ => 0) :=
  Pipeline.θ_run_frame_dmaR_aroundV cfgs (dats m) 0 launch0 osem defs₀ 𝒱₀ ownSemFacts Hs Rs (by decide) (by decide) m g main
    (hbody := fun c => (body_obligation m c).loose) (hshare := fun c w => w.elim0) (howed := fun _ _ => rfl)
    (V₀ := V0 m) (opss := [hostOps1]) (hsub := sfx_sub) (hfresh := sfx_fresh) (hkeep := sfx_keeps) (G := Gof m)
    (hmain := hmainK m) (hA := fun _ w => w.elim0) (hin := fun c => Φ_in m c) (hout := fun c => Φ_out m c)
    (Q' := _) (hQ' := fun r h => ⟨fun c b hb => (h.1 c).2 b hb, h.2⟩)

end Cert.Proof.Stream

end
-- ==== Proof.Frames.lean ====
/-
  What the run leaves in the arguments and in the result, and the frames of the kernel and of its ideal reading.
-/
module

public import proofs.«01_k».proof.Proof.Run
public import proofs.«01_k».proof.Defs
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.Proof.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ) (g : Dev nD → PrngReg)

/-- The host's last two lines write neither argument, nor does the kernel: the first argument ends as launched, -/
theorem Wof_arg0 (c : Dev nD) : Wof m c (Proc.devRef .tc main_arg0) = m ((c : Thread nD τ).loc main_arg0) := by
  unfold Wof
  rw [StableHlo.after_of_forall_not_mem (b := Proc.devRef .tc main_arg0) _ _ (List.forall_iff_forall_mem.mp (by
      simp only [hostOps1, List.flatten_cons, List.flatten_nil, List.append_nil, List.Forall, StableHlo.unary_writes, StableHlo.reshape_writes, Finset.mem_singleton]
      exact ⟨StableHlo.devRef_ne_of_ne (by decide), StableHlo.devRef_ne_of_ne (by decide)⟩)),
    Pipeline.withArrays_of_ne _ c _ _ main_arg0 (fun w => w.elim0), Pipeline.withR_of_not_mem _ _ _ _ main_arg0 (by decide)]
  exact V_main_arg0 m c
/-- and so does the second. -/
theorem Wof_arg1 (c : Dev nD) : Wof m c (Proc.devRef .tc main_arg1) = m ((c : Thread nD τ).loc main_arg1) := by
  unfold Wof
  rw [StableHlo.after_of_forall_not_mem (b := Proc.devRef .tc main_arg1) _ _ (List.forall_iff_forall_mem.mp (by
      simp only [hostOps1, List.flatten_cons, List.flatten_nil, List.append_nil, List.Forall, StableHlo.unary_writes, StableHlo.reshape_writes, Finset.mem_singleton]
      exact ⟨StableHlo.devRef_ne_of_ne (by decide), StableHlo.devRef_ne_of_ne (by decide)⟩)),
    Pipeline.withArrays_of_ne _ c _ _ main_arg1 (fun w => w.elim0), Pipeline.withR_of_not_mem _ _ _ _ main_arg1 (by decide)]
  exact V_main_arg1 m c

/-- The result: the kernel's output, its 56 rows of 14 pixels read as 28 rows of 28, the channels moved to the front. -/
def resultOf (c : Dev nD) : Buf (Elt F) ((c : Thread nD τ).loc main_v6) := Wof m c (Proc.devRef .tc main_v6)

/-- The run, read at the result, at the arguments and at the semaphores. -/
theorem run_values : θ_run (defs (F := F)) (onTc (τ := τ) (main (F := F))) ⟨m, fun _ => 0, g⟩
    (fun r => (∀ c : Dev nD, r.2.mem ((c.tc : Thread nD τ).loc main_v6) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨h.1 c main_v6 (Pipeline.mem_restRefs_of main_v6 (by decide) (by decide)),
    (h.1 c main_arg0 (Pipeline.mem_restRefs_of main_arg0 (by decide) (by decide))).trans (Wof_arg0 m c),
    (h.1 c main_arg1 (Pipeline.mem_restRefs_of main_arg1 (by decide) (by decide))).trans (Wof_arg1 m c)⟩, h.2⟩) (run_main m g)

/-- The kernel, at any float values: it runs to the end, the arguments unchanged, every semaphore at zero. -/
theorem frame_any : θ_run (defs (F := F)) (onTc (τ := τ) (main (F := F))) ⟨m, fun _ => 0, g⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_values m g)

/-- The ideal reading's frame. -/
theorem frame_ideal : Cert.quiescent_KernelIdeal := fun m g _ => frame_any (F := Ideal) m g

set_option maxRecDepth 65536 in
/-- The kernel's frame: its text and its ideal reading's are the same. -/
theorem frame_kernel : Cert.quiescent_Kernel := fun m g _ => frame_any (F := Bits) m g

end Cert.Proof.Stream

end
-- ==== Proof.Values.lean ====
/-
  What the ideal run leaves in the result, entry by entry.
-/
module

public import proofs.«01_k».proof.Proof.Frames
public import Idealize.ShloMosaic.Lib.Pointwise

@[expose] public section

set_option maxRecDepth 16384

noncomputable section

namespace Cert.Proof.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A block's sum over its row and its pixels, at a sample and a lane: over the seven pixels. -/
theorem sum_pixels (h : S1x7x128x512.Reduces [0, 1] S128x512) (x : S1x7x128x512.Idx → EReal) (b : Fin 128) (l : Fin 512) :
    Ideal.reduceAdd h x (ix2 b l) = ∑ j : Fin 7, x (ix4 0 j b l) := by
  unfold Ideal.reduceAdd
  refine Finset.sum_filter_eq_sum_of_fiber _ (fun j : Fin 7 => ix4 (0 : Fin 1) j b l) (fun _ _ e => congrFun e 1) (fun i => ?_) x
  constructor
  · intro e
    refine ⟨i 1, ?_⟩
    funext a; apply Fin.ext
    match a with
    | ⟨0, _⟩ => have := (i 0).isLt; change (0 : ℕ) = (i 0).val; change (i 0).val < 1 at this; omega
    | ⟨1, _⟩ => rfl
    | ⟨2, _⟩ => exact (congrArg Fin.val (congrFun e 0)).symm
    | ⟨3, _⟩ => exact (congrArg Fin.val (congrFun e 1)).symm
  · rintro ⟨k, rfl⟩
    funext a; apply Fin.ext
    match a with
    | ⟨0, _⟩ => rfl
    | ⟨1, _⟩ => rfl

/-- A trip of the first loop, at a sample and a lane: the accumulator there plus the number of the block's seven values that are positive. -/
theorem pay4_apply (v : Vec Ideal S1x1x7x128x512 .f32) (a : Vec Ideal S128x512 .f32) (b : Fin 128) (l : Fin 512) :
    k0_pay4 (F := Ideal) v a (ix2 b l) = a (ix2 b l) + ∑ j : Fin 7, if 0 < v (ix5 0 0 j b l) then (1 : EReal) else 0 := by
  pointwise [k0_pay4]
  rw [sum_pixels]
  pointwise
/-- The weights, at a sample: the accumulator's lanes added, the same at every channel. -/
theorem pay5_apply (a : Vec Ideal S128x512 .f32) (b : Fin 128) (l : Fin 256) :
    k0_pay1 (F := Ideal) (k0_pay5 a) (ix2 b l) = ∑ x : Fin 512, a (ix2 b x) := by
  pointwise [k0_pay1, k0_pay5]
/-- A trip of the second loop, at a pixel and a channel: the weights of the samples whose value there is positive, added. -/
theorem pay2_apply (v : Vec Ideal S1x1x14x128x256 .f32) (w : Vec Ideal S128x256 .f32) (j : Fin 14) (l : Fin 256) :
    shapeCast S1x14x256 (k0_pay2 (F := Ideal) v w) casts_o (ix3 0 j l) = ∑ b : Fin 128, if 0 < v (ix5 0 0 j b l) then w (ix2 b l) else (0 : EReal) := by
  pointwise [k0_pay2]
/-- The accumulator starts at zero. -/
theorem pay3_apply (b : Fin 128) (l : Fin 512) : k0_pay3 (F := Ideal) (ix2 b l) = 0 := by
  pointwise [k0_pay3]

section Blocks
variable (c : Dev nD) (XC : Buf (Elt Ideal) (cM.view.loc (c : Thread nD τ))) (XP : Buf (Elt Ideal) (pM.view.loc (c : Thread nD τ)))

/-- Block `k` of the second input, entry by entry: the input's row `k`. -/
theorem cBlk_apply (k : Fin 28) (j : Fin 7) (b : Fin 128) (l : Fin 512) : cBlk (F := Ideal) c XC k (ix5 0 0 j b l) = XC (ix4 k j b l) := by
  unfold cBlk
  pointwise
  refine congrArg XC ?_
  funext a; apply Fin.ext
  match a with
    | ⟨0, _⟩ => exact Nat.add_zero _
    | ⟨1, _⟩ => exact (show 0 + 1 * j.val = j.val by omega)
    | ⟨2, _⟩ => exact (show 0 + 1 * b.val = b.val by omega)
    | ⟨3, _⟩ => exact (show 0 + 1 * l.val = l.val by omega)
/-- Block `k` of the first input, entry by entry: the input's row `k`. -/
theorem pBlk_apply (k : Fin 56) (j : Fin 14) (b : Fin 128) (l : Fin 256) : pBlk (F := Ideal) c XP k (ix5 0 0 j b l) = XP (ix4 k j b l) := by
  unfold pBlk
  pointwise
  refine congrArg XP ?_
  funext a; apply Fin.ext
  match a with
    | ⟨0, _⟩ => exact Nat.add_zero _
    | ⟨1, _⟩ => exact (show 0 + 1 * j.val = j.val by omega)
    | ⟨2, _⟩ => exact (show 0 + 1 * b.val = b.val by omega)
    | ⟨3, _⟩ => exact (show 0 + 1 * l.val = l.val by omega)
end Blocks

variable (m : (ℓ : Loc nD τ sig) → Buf (Elt Ideal) ℓ) (c : Dev nD)

/-- The two arguments as launched. -/
abbrev prevOf : S128x256x28x28.Idx → EReal := m (c, Proc.tc.devRef main_arg0)
abbrev currOf : S128x512x14x14.Idx → EReal := m (c, Proc.tc.devRef main_arg1)

/-- What the region finds in the second input: the second argument, pixels first, its 14 rows of 14 read as 28 of 7. -/
theorem XCof_eq : XCof (F := Ideal) m c = shapeCast S28x7x128x512 (transpose S14x14x128x512 [2, 3, 0, 1] (currOf m c) transposes_S128x512x14x14_S14x14x128x512_2_3_0_1)
      shapeCasts_S14x14x128x512_S28x7x128x512 := by
  show StableHlo.after [hostOps0].flatten (fun b => m (c, b)) (Proc.tc.devRef main_v3) = _
  simp only [List.flatten_cons, List.flatten_nil, List.append_nil, hostOps0]
  after_results
  rfl
/-- What the region finds in the first input: the first argument, pixels first, its 28 rows of 28 read as 56 of 14. -/
theorem XPof_eq : XPof (F := Ideal) m c = shapeCast S56x14x128x256 (transpose S28x28x128x256 [2, 3, 0, 1] (prevOf m c) transposes_S128x256x28x28_S28x28x128x256_2_3_0_1)
      shapeCasts_S28x28x128x256_S56x14x128x256 := by
  show StableHlo.after [hostOps0].flatten (fun b => m (c, b)) (Proc.tc.devRef main_v1) = _
  simp only [List.flatten_cons, List.flatten_nil, List.append_nil, hostOps0]
  after_results
  rfl
/-- The result is the kernel's output, its 56 rows of 14 read as 28 of 28, channels first. -/
theorem resultOf_eq : resultOf (F := Ideal) m c = transpose S256x28x28 [2, 0, 1] (shapeCast S28x28x256 (Rof m c : S56x14x256.Idx → EReal) shapeCasts_S56x14x256_S28x28x256)
      transposes_S28x28x256_S256x28x28_2_0_1 := by
  have mid : (Pipeline.withArrays cfg0.spec c (Pipeline.withR (V0 m c) Rs c (Gof m c)) fun w => (dats m 0 c).arrAt w cfg0.N) (Proc.tc.devRef main_v4) = Rof m c := by
    rw [Pipeline.withArrays_of_ne _ c _ _ main_v4 (fun w => w.elim0), Pipeline.withR_of_mem _ _ _ _ main_v4 (by decide)]
    exact Gof_v4 m c
  rw [← mid]
  unfold resultOf Wof
  simp only [List.flatten_cons, List.flatten_nil, List.append_nil, hostOps1]
  after_results
  rfl

/-- Row `k`, pixel `j` of the second input as the kernel sees it, in the argument: 28 rows of 7 pixels are 14 rows of 14. -/
theorem XCof_apply (k : Fin 28) (j : Fin 7) (b : Fin 128) (l : Fin 512) :
    XCof (F := Ideal) m c (ix4 k j b l) = currOf m c (ix4 b l ⟨k / 2, by omega⟩ ⟨k % 2 * 7 + j, by omega⟩) := by
  rw [XCof_eq]
  pointwise
/-- The same of the first: 56 rows of 14 pixels are 28 rows of 28. -/
theorem XPof_apply (k : Fin 56) (j : Fin 14) (b : Fin 128) (l : Fin 256) :
    XPof (F := Ideal) m c (ix4 k j b l) = prevOf m c (ix4 b l ⟨k / 2, by omega⟩ ⟨k % 2 * 14 + j, by omega⟩) := by
  rw [XPof_eq]
  pointwise
/-- The kernel's 56 rows of 14 pixels, read as the result reads them. -/
theorem rows_apply (R : S56x14x256.Idx → EReal) (x : Fin 256) (h w : Fin 28) :
    transpose S256x28x28 [2, 0, 1] (shapeCast S28x28x256 R shapeCasts_S56x14x256_S28x28x256) transposes_S28x28x256_S256x28x28_2_0_1 (ix3 x h w)
      = R (ix3 ⟨h * 2 + w / 14, by omega⟩ ⟨w % 14, by omega⟩ x) := by
  pointwise

/-- A sum over 28 rows of 7 pixels is the sum over 14 rows of 14. -/
theorem sum_halves (f : Fin 14 → Fin 14 → EReal) :
    (∑ k : Fin 28, ∑ j : Fin 7, f ⟨k / 2, by omega⟩ ⟨k % 2 * 7 + j, by omega⟩) = ∑ h : Fin 14, ∑ w : Fin 14, f h w := by
  rw [← Fintype.sum_prod_type' (fun (k : Fin 28) (j : Fin 7) => f ⟨k / 2, by omega⟩ ⟨k % 2 * 7 + j, by omega⟩), ← Fintype.sum_prod_type' f]
  refine Fintype.sum_equiv
    { toFun := fun q : Fin 28 × Fin 7 => ((⟨q.1 / 2, by omega⟩ : Fin 14), (⟨q.1 % 2 * 7 + q.2, by omega⟩ : Fin 14))
      invFun := fun q => (⟨q.1 * 2 + q.2 / 7, by omega⟩, ⟨q.2 % 7, by omega⟩)
      left_inv := fun q => Prod.ext (Fin.ext ?_) (Fin.ext ?_)
      right_inv := fun q => Prod.ext (Fin.ext ?_) (Fin.ext ?_) } _ _ (fun _ => rfl)
  all_goals (have h1 := q.1.isLt; have h2 := q.2.isLt; dsimp only; omega)

/-- How many of a sample's values, over every channel and pixel of the second argument, are positive. -/
def count (q : S128x512x14x14.Idx → EReal) (b : Fin 128) : EReal :=
  ∑ l : Fin 512, ∑ h : Fin 14, ∑ w : Fin 14, if 0 < q (ix4 b l h w) then (1 : EReal) else 0

/-- The accumulator before trip `n`, as an array of numbers. -/
def accArr (XC : S28x7x128x512.Idx → EReal) (n : ℕ) : S128x512.Idx → EReal := accAt (F := Ideal) c XC (k0_pay3 (F := Ideal)) n

/-- The accumulator before trip `n`: the first `n` blocks' positive values, lane by lane. -/
theorem accAt_apply (XC : S28x7x128x512.Idx → EReal) (b : Fin 128) (l : Fin 512) (n : ℕ) :
    accArr c XC n (ix2 b l)
      = ∑ k ∈ Finset.range n, ∑ j : Fin 7, if 0 < XC (ix4 (Ring.bk 28 k) j b l) then (1 : EReal) else 0 := by
  induction n with
  | zero => rw [Finset.sum_range_zero]; exact pay3_apply b l
  | succ n ih =>
    rw [Finset.sum_range_succ, ← ih]
    have hj : (∑ j : Fin 7, if 0 < (cBlk (F := Ideal) c XC (Ring.bk 28 n) (ix5 0 0 j b l) : EReal) then (1 : EReal) else 0)
        = ∑ j : Fin 7, if 0 < XC (ix4 (Ring.bk 28 n) j b l) then (1 : EReal) else 0 :=
      Finset.sum_congr rfl fun j _ => congrArg (fun v : EReal => if 0 < v then (1 : EReal) else 0) (cBlk_apply c XC (Ring.bk 28 n) j b l)
    rw [← hj]
    exact pay4_apply (cBlk c XC (Ring.bk 28 n)) (accArr c XC n) b l

/-- The weight of a sample is its count, at every lane. -/
theorem wEnd_apply (b : Fin 128) (x : Fin 256) :
    (wEnd (F := Ideal) c (XCof m c) : S128x256.Idx → EReal) (ix2 b x) = count (currOf m c) b := by
  have hl : ∀ l : Fin 512, accArr c (XCof m c) 28 (ix2 b l)
      = ∑ h : Fin 14, ∑ w : Fin 14, if 0 < currOf m c (ix4 b l h w) then (1 : EReal) else 0 := fun l => by
    rw [← sum_halves fun h w => if 0 < currOf m c (ix4 b l h w) then (1 : EReal) else 0]
    refine (accAt_apply c (XCof m c) b l 28).trans ((Finset.sum_range _).trans ?_)
    refine Finset.sum_congr rfl fun k _ => Finset.sum_congr rfl fun j _ => ?_
    rw [show Ring.bk 28 k.val = k from Fin.ext (Ring.bk_val k.isLt)]
    exact congrArg (fun v : EReal => if 0 < v then (1 : EReal) else 0) (XCof_apply m c k j b l)
  have hs : (∑ l : Fin 512, accArr c (XCof m c) 28 (ix2 b l)) = count (currOf m c) b :=
    Finset.sum_congr rfl fun l _ => hl l
  exact (pay5_apply (accArr c (XCof m c) 28) b x).trans hs

/-- The kernel's output: at each row, pixel and channel, the counts of the samples whose first value there is positive, added. -/
theorem Rof_apply (k : Fin 56) (j : Fin 14) (x : Fin 256) :
    (Rof (F := Ideal) m c : S56x14x256.Idx → EReal) (ix3 k j x)
      = ∑ b : Fin 128, if 0 < prevOf m c (ix4 b x ⟨k / 2, by omega⟩ ⟨k % 2 * 14 + j, by omega⟩) then count (currOf m c) b else (0 : EReal) := by
  refine (pay2_apply (pBlk c (XPof m c) k) (wEnd c (XCof m c)) j x).trans (Finset.sum_congr rfl fun b _ => ?_)
  have hp := (pBlk_apply c (XPof m c) k j b x).trans (XPof_apply m c k j b x)
  have hw := wEnd_apply m c b x
  exact (congrArg (fun v : EReal => if 0 < v then (wEnd (F := Ideal) c (XCof m c) : S128x256.Idx → EReal) (ix2 b x) else (0 : EReal)) hp).trans
    (congrArg (fun v : EReal => if 0 < prevOf m c (ix4 b x ⟨k / 2, by omega⟩ ⟨k % 2 * 14 + j, by omega⟩) then v else (0 : EReal)) hw)

/-- The result: at each channel and pixel, the counts of the samples whose first value there is positive, added. -/
theorem resultOf_apply (x : Fin 256) (h w : Fin 28) :
    (resultOf (F := Ideal) m c : S256x28x28.Idx → EReal) (ix3 x h w)
      = ∑ b : Fin 128, if 0 < prevOf m c (ix4 b x h w) then count (currOf m c) b else (0 : EReal) := by
  have hb : (∑ b : Fin 128, if 0 < prevOf m c (ix4 b x ⟨(h.val * 2 + w.val / 14) / 2, by omega⟩ ⟨(h.val * 2 + w.val / 14) % 2 * 14 + w.val % 14, by omega⟩)
        then count (currOf m c) b else (0 : EReal))
      = ∑ b : Fin 128, if 0 < prevOf m c (ix4 b x h w) then count (currOf m c) b else (0 : EReal) :=
    Finset.sum_congr rfl fun b _ => congrArg (fun i => if 0 < prevOf m c i then count (currOf m c) b else (0 : EReal))
      (congrArg₂ (ix4 b x) (Fin.ext (show (h.val * 2 + w.val / 14) / 2 = h.val by omega))
        (Fin.ext (show (h.val * 2 + w.val / 14) % 2 * 14 + w.val % 14 = w.val by omega)))
  exact (congrFun (resultOf_eq m c) (ix3 x h w)).trans ((rows_apply _ x h w).trans ((Rof_apply m c _ _ x).trans hb))

end Cert.Proof.Stream

end
-- ==== Proof.Algebra.lean ====
/-
  The reference at an entry, and the two programs' results compared.
-/
module

public import proofs.«01_k».proof.Proof.Values

@[expose] public section

set_option maxRecDepth 16384

noncomputable section

namespace Cert.Proof.Stream.Ref
open Cert.ReferenceIdeal Cert.ReferenceIdeal.Gen Idealize.ShloMosaic
variable (p : S128x256x28x28.Idx → EReal) (q : S128x512x14x14.Idx → EReal)

/-- A sum over a sample's channels and pixels. -/
theorem sum_sample (h : S128x512x14x14.ReducesTo [1, 2, 3] S128) (x : S128x512x14x14.Idx → EReal) (v : EReal) (b : Fin 128) :
    Ideal.hostReduceAdd h x v (ix1 b) = v + ∑ l : Fin 512, ∑ r : Fin 14, ∑ s : Fin 14, x (ix4 b l r s) := by
  unfold Ideal.hostReduceAdd
  refine congrArg (v + ·) ?_
  refine (Finset.sum_filter_eq_sum_of_fiber _ (fun k : Fin 512 × Fin 14 × Fin 14 => ix4 b k.1 k.2.1 k.2.2)
    (fun _ _ e => Prod.ext (congrFun e 1) (Prod.ext (congrFun e 2) (congrFun e 3))) (fun i => ?_) x).trans ?_
  · constructor
    · intro e
      refine ⟨(i 1, i 2, i 3), ?_⟩
      funext a; apply Fin.ext
      match a with
      | ⟨0, _⟩ => exact (congrArg Fin.val (congrFun e 0)).symm
      | ⟨1, _⟩ => rfl
      | ⟨2, _⟩ => rfl
      | ⟨3, _⟩ => rfl
    · rintro ⟨k, rfl⟩
      funext a; apply Fin.ext
      match a with
      | ⟨0, _⟩ => rfl
  · rw [Fintype.sum_prod_type]
    exact Finset.sum_congr rfl fun l _ => Fintype.sum_prod_type _

/-- A truth value as a number: one or zero. -/
theorem uitofp_ofBool (P : Prop) [Decidable P] : FloatOps.uitofp (F := Ideal) .f32 (BitVec.ofBool (decide P)) = if P then (1 : EReal) else 0 := by
  by_cases h : P
  · rw [if_pos h, decide_eq_true h]
    show (((BitVec.ofBool true).toNat : ℝ) : EReal) = 1
    rw [show (BitVec.ofBool true).toNat = 1 from rfl]
    norm_num
  · rw [if_neg h, decide_eq_false h]
    show (((BitVec.ofBool false).toNat : ℝ) : EReal) = 0
    rw [show (BitVec.ofBool false).toNat = 0 from rfl]
    norm_num

/-- The reference at an entry: the same sum of counts. -/
theorem ref_apply (x : Fin 256) (h w : Fin 28) : Host.dotGeneral (F := Ideal) dot_S128x256x28x28_S128_S256x28x28_0_0_123_n_n_n none (uitofp .f32 (cmpf (F := Ideal) (φ := .f32) .ogt p (broadcastInDim S128x256x28x28 ![] bcast_S_S128x256x28x28 (constant S_ .f32 0x00000000#32)))) (Host.reduceAdd (uitofp .f32 (cmpf (F := Ideal) (φ := .f32) .ogt q (broadcastInDim S128x512x14x14 ![] bcast_S_S128x512x14x14 (constant S_ .f32 0#32)))) (constant S_ .f32 0#32) reducesTo_S128x512x14x14_S128_d1_2_3 h_S_) (ix3 x h w)
      = ∑ b : Fin 128, if 0 < p (ix4 b x h w) then count q b else (0 : EReal) := by
  pointwise
  refine Finset.sum_congr rfl fun b _ => ?_
  rw [uitofp_ofBool, sum_sample, zero_add, ite_mul, one_mul, zero_mul]
  refine congrArg (fun v : EReal => if 0 < p (ix4 b x h w) then v else 0) ?_
  refine Finset.sum_congr rfl fun l _ => Finset.sum_congr rfl fun r _ => Finset.sum_congr rfl fun s _ => ?_
  pointwise
  exact uitofp_ofBool _

end Cert.Proof.Stream.Ref

namespace Cert.Proof.Stream

open Idealize.ShloMosaic

/-- The reference's frame: it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the extended reals the kernel's result is the reference's. -/
theorem algebraic : Cert.algebraic_KernelIdeal_ReferenceIdeal := fun m g m' g' _ hm =>
  ⟨fun c => resultOf (F := Ideal) m c, (θ_run Cert.KernelIdeal.defs _ _).mono (fun _ h => h.1) (run_values (F := Ideal) m g),
    (θ_run Cert.ReferenceIdeal.defs _ _).mono (fun r h c => ⟨(h c).1.trans (by
      rw [(hm c).1, (hm c).2]
      funext i
      rw [eq_ix3 i]
      exact (Ref.ref_apply _ _ _ _ _).trans (resultOf_apply m c _ _ _).symm), (h c).2⟩)
      (Cert.ReferenceIdeal.Value.run (F := Ideal) m' g')⟩

end Cert.Proof.Stream

end
-- ==== Proof.lean ====
/-
  The proof of `Cert.Claim`: the kernel, its ideal reading and the reference run to the end with their arguments unchanged and
  their semaphores at zero, and the kernel and the reference compute the same array over the extended reals.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebra

@[expose] public section

noncomputable section

namespace Cert.Proof

open Idealize.ShloMosaic Idealize.SL.Sem

/-- The five claims: the three frames, the ideal program, the equation. -/
theorem claim : Cert.Claim := ⟨Cert.Kernel.Gen.facts, Cert.KernelIdeal.Gen.facts, Cert.ReferenceIdeal.Gen.facts, Stream.frame_kernel, Stream.frame_ideal, Stream.frame_ref, trivial, Stream.algebraic⟩

end Cert.Proof

end
